-- ==== Defs.lean ====
def Pre_Y (m : (ℓ : Loc Cert.Y.nD Cert.Y.τ Cert.Y.sig) → Buf (Elt Bits) ℓ) : Prop :=
  True

def Pre_YIdeal (m : (ℓ : Loc Cert.YIdeal.nD Cert.YIdeal.τ Cert.YIdeal.sig) → Buf (Elt Ideal) ℓ) : Prop :=
  True

def Pre_RYIdeal (m : (ℓ : Loc Cert.RYIdeal.nD Cert.RYIdeal.τ Cert.RYIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_RDxIdeal (m : (ℓ : Loc Cert.RDxIdeal.nD Cert.RDxIdeal.τ Cert.RDxIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_RBwdIdeal (m : (ℓ : Loc Cert.RBwdIdeal.nD Cert.RBwdIdeal.τ Cert.RBwdIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_RPrepIdeal (m : (ℓ : Loc Cert.RPrepIdeal.nD Cert.RPrepIdeal.τ Cert.RPrepIdeal.sig) → Buf (Elt Ideal) ℓ) : Prop :=
  True

def quiescent_Y [hY : Cert.Y.Facts] : Prop :=
  ∀ (m : (ℓ : Loc Cert.Y.nD Cert.Y.τ Cert.Y.sig) → Buf (Elt Bits) ℓ) (g : Dev Cert.Y.nD → PrngReg), Pre_Y m →
    θ_run (Cert.Y.defs (F := Bits)) (onTc (τ := Cert.Y.τ) (Cert.Y.main (F := Bits))) ⟨m, fun _ => 0, g⟩ (fun r => (∀ c : Dev Cert.Y.nD,
      r.2.mem ((c.tc : Thread Cert.Y.nD Cert.Y.τ).loc Cert.Y.main_arg0) = m ((c.tc : Thread Cert.Y.nD Cert.Y.τ).loc Cert.Y.main_arg0)
      ∧ r.2.mem ((c.tc : Thread Cert.Y.nD Cert.Y.τ).loc Cert.Y.main_arg1) = m ((c.tc : Thread Cert.Y.nD Cert.Y.τ).loc Cert.Y.main_arg1)
      ∧ r.2.mem ((c.tc : Thread Cert.Y.nD Cert.Y.τ).loc Cert.Y.main_arg2) = m ((c.tc : Thread Cert.Y.nD Cert.Y.τ).loc Cert.Y.main_arg2))
      ∧ r.2.sem = fun _ => 0)

def quiescent_YIdeal [hYIdeal : Cert.YIdeal.Facts] : Prop :=
  ∀ (m : (ℓ : Loc Cert.YIdeal.nD Cert.YIdeal.τ Cert.YIdeal.sig) → Buf (Elt Ideal) ℓ) (g : Dev Cert.YIdeal.nD → PrngReg), Pre_YIdeal m →
    θ_run (Cert.YIdeal.defs (F := Ideal)) (onTc (τ := Cert.YIdeal.τ) (Cert.YIdeal.main (F := Ideal))) ⟨m, fun _ => 0, g⟩ (fun r => (∀ c : Dev Cert.YIdeal.nD,
      r.2.mem ((c.tc : Thread Cert.YIdeal.nD Cert.YIdeal.τ).loc Cert.YIdeal.main_arg0) = m ((c.tc : Thread Cert.YIdeal.nD Cert.YIdeal.τ).loc Cert.YIdeal.main_arg0)
      ∧ r.2.mem ((c.tc : Thread Cert.YIdeal.nD Cert.YIdeal.τ).loc Cert.YIdeal.main_arg1) = m ((c.tc : Thread Cert.YIdeal.nD Cert.YIdeal.τ).loc Cert.YIdeal.main_arg1)
      ∧ r.2.mem ((c.tc : Thread Cert.YIdeal.nD Cert.YIdeal.τ).loc Cert.YIdeal.main_arg2) = m ((c.tc : Thread Cert.YIdeal.nD Cert.YIdeal.τ).loc Cert.YIdeal.main_arg2))
      ∧ r.2.sem = fun _ => 0)

def quiescent_RYIdeal [hRYIdeal : Cert.RYIdeal.Facts] : Prop :=
  ∀ (m : (ℓ : Loc Cert.RYIdeal.nD Cert.RYIdeal.τ Cert.RYIdeal.sig) → Buf (Elt Ideal) ℓ) (g : Dev Cert.RYIdeal.nD → PrngReg), Pre_RYIdeal m →
    θ_run (Cert.RYIdeal.defs (F := Ideal)) (onTc (τ := Cert.RYIdeal.τ) (Cert.RYIdeal.main (F := Ideal))) ⟨m, fun _ => 0, g⟩ (fun r => (∀ c : Dev Cert.RYIdeal.nD,
      r.2.mem ((c.tc : Thread Cert.RYIdeal.nD Cert.RYIdeal.τ).loc Cert.RYIdeal.main_arg0) = m ((c.tc : Thread Cert.RYIdeal.nD Cert.RYIdeal.τ).loc Cert.RYIdeal.main_arg0)
      ∧ r.2.mem ((c.tc : Thread Cert.RYIdeal.nD Cert.RYIdeal.τ).loc Cert.RYIdeal.main_arg1) = m ((c.tc : Thread Cert.RYIdeal.nD Cert.RYIdeal.τ).loc Cert.RYIdeal.main_arg1)
      ∧ r.2.mem ((c.tc : Thread Cert.RYIdeal.nD Cert.RYIdeal.τ).loc Cert.RYIdeal.main_arg2) = m ((c.tc : Thread Cert.RYIdeal.nD Cert.RYIdeal.τ).loc Cert.RYIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ r.2.sem = fun _ => 0)

def quiescent_RDxIdeal [hRDxIdeal : Cert.RDxIdeal.Facts] : Prop :=
  ∀ (m : (ℓ : Loc Cert.RDxIdeal.nD Cert.RDxIdeal.τ Cert.RDxIdeal.sig) → Buf (Elt Ideal) ℓ) (g : Dev Cert.RDxIdeal.nD → PrngReg), Pre_RDxIdeal m →
    θ_run (Cert.RDxIdeal.defs (F := Ideal)) (onTc (τ := Cert.RDxIdeal.τ) (Cert.RDxIdeal.main (F := Ideal))) ⟨m, fun _ => 0, g⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2)
      ∧ r.2.mem ((c.tc : Thread Cert.RDxIdeal.nD Cert.RDxIdeal.τ).loc Cert.RDxIdeal.main_arg3) = m ((c.tc : Thread Cert.RDxIdeal.nD Cert.RDxIdeal.τ).loc Cert.RDxIdeal.main_arg3)
      ∧ r.2.mem ((c.tc : Thread Cert.RDxIdeal.nD Cert.RDxIdeal.τ).loc Cert.RDxIdeal.main_arg4) = m ((c.tc : Thread Cert.RDxIdeal.nD Cert.RDxIdeal.τ).loc Cert.RDxIdeal.main_arg4)
      ∧ r.2.mem ((c.tc : Thread Cert.RDxIdeal.nD Cert.RDxIdeal.τ).loc Cert.RDxIdeal.main_arg5) = m ((c.tc : Thread Cert.RDxIdeal.nD Cert.RDxIdeal.τ).loc Cert.RDxIdeal.main_arg5)
      ∧ r.2.mem ((c.tc : Thread Cert.RDxIdeal.nD Cert.RDxIdeal.τ).loc Cert.RDxIdeal.main_arg6) = m ((c.tc : Thread Cert.RDxIdeal.nD Cert.RDxIdeal.τ).loc Cert.RDxIdeal.main_arg6)
      ∧ r.2.mem ((c.tc : Thread Cert.RDxIdeal.nD Cert.RDxIdeal.τ).loc Cert.RDxIdeal.main_arg7) = m ((c.tc : Thread Cert.RDxIdeal.nD Cert.RDxIdeal.τ).loc Cert.RDxIdeal.main_arg7)
      ∧ r.2.mem ((c.tc : Thread Cert.RDxIdeal.nD Cert.RDxIdeal.τ).loc Cert.RDxIdeal.main_arg8) = m ((c.tc : Thread Cert.RDxIdeal.nD Cert.RDxIdeal.τ).loc Cert.RDxIdeal.main_arg8)
      ∧ r.2.mem ((c.tc : Thread Cert.RDxIdeal.nD Cert.RDxIdeal.τ).loc Cert.RDxIdeal.main_arg9) = m ((c.tc : Thread Cert.RDxIdeal.nD Cert.RDxIdeal.τ).loc Cert.RDxIdeal.main_arg9))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8)
      ∧ r.2.mem ((c.tc : Thread Cert.Bwd.nD Cert.Bwd.τ).loc Cert.Bwd.main_arg9) = m ((c.tc : Thread Cert.Bwd.nD Cert.Bwd.τ).loc Cert.Bwd.main_arg9)
      ∧ r.2.mem ((c.tc : Thread Cert.Bwd.nD Cert.Bwd.τ).loc Cert.Bwd.main_arg10) = m ((c.tc : Thread Cert.Bwd.nD Cert.Bwd.τ).loc Cert.Bwd.main_arg10))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
      ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10))
      ∧ r.2.sem = fun _ => 0)

def quiescent_RBwdIdeal [hRBwdIdeal : Cert.RBwdIdeal.Facts] : Prop :=
  ∀ (m : (ℓ : Loc Cert.RBwdIdeal.nD Cert.RBwdIdeal.τ Cert.RBwdIdeal.sig) → Buf (Elt Ideal) ℓ) (g : Dev Cert.RBwdIdeal.nD → PrngReg), Pre_RBwdIdeal m →
    θ_run (Cert.RBwdIdeal.defs (F := Ideal)) (onTc (τ := Cert.RBwdIdeal.τ) (Cert.RBwdIdeal.main (F := Ideal))) ⟨m, fun _ => 0, g⟩ (fun r => (∀ c : Dev Cert.RBwdIdeal.nD,
      r.2.mem ((c.tc : Thread Cert.RBwdIdeal.nD Cert.RBwdIdeal.τ).loc Cert.RBwdIdeal.main_arg0) = m ((c.tc : Thread Cert.RBwdIdeal.nD Cert.RBwdIdeal.τ).loc Cert.RBwdIdeal.main_arg0)
      ∧ r.2.mem ((c.tc : Thread Cert.RBwdIdeal.nD Cert.RBwdIdeal.τ).loc Cert.RBwdIdeal.main_arg1) = m ((c.tc : Thread Cert.RBwdIdeal.nD Cert.RBwdIdeal.τ).loc Cert.RBwdIdeal.main_arg1)
      ∧ r.2.mem ((c.tc : Thread Cert.RBwdIdeal.nD Cert.RBwdIdeal.τ).loc Cert.RBwdIdeal.main_arg2) = m ((c.tc : Thread Cert.RBwdIdeal.nD Cert.RBwdIdeal.τ).loc Cert.RBwdIdeal.main_arg2)
      ∧ r.2.mem ((c.tc : Thread Cert.RBwdIdeal.nD Cert.RBwdIdeal.τ).loc Cert.RBwdIdeal.main_arg3) = m ((c.tc : Thread Cert.RBwdIdeal.nD Cert.RBwdIdeal.τ).loc Cert.RBwdIdeal.main_arg3)
      ∧ r.2.mem ((c.tc : Thread Cert.RBwdIdeal.nD Cert.RBwdIdeal.τ).loc Cert.RBwdIdeal.main_arg4) = m ((c.tc : Thread Cert.RBwdIdeal.nD Cert.RBwdIdeal.τ).loc Cert.RBwdIdeal.main_arg4)
      ∧ r.2.mem ((c.tc : Thread Cert.RBwdIdeal.nD Cert.RBwdIdeal.τ).loc Cert.RBwdIdeal.main_arg5) = m ((c.tc : Thread Cert.RBwdIdeal.nD Cert.RBwdIdeal.τ).loc Cert.RBwdIdeal.main_arg5)
      ∧ r.2.mem ((c.tc : Thread Cert.RBwdIdeal.nD Cert.RBwdIdeal.τ).loc Cert.RBwdIdeal.main_arg6) = m ((c.tc : Thread Cert.RBwdIdeal.nD Cert.RBwdIdeal.τ).loc Cert.RBwdIdeal.main_arg6)
      ∧ r.2.mem ((c.tc : Thread Cert.RBwdIdeal.nD Cert.RBwdIdeal.τ).loc Cert.RBwdIdeal.main_arg7) = m ((c.tc : Thread Cert.RBwdIdeal.nD Cert.RBwdIdeal.τ).loc Cert.RBwdIdeal.main_arg7)
      ∧ r.2.mem ((c.tc : Thread Cert.RBwdIdeal.nD Cert.RBwdIdeal.τ).loc Cert.RBwdIdeal.main_arg8) = m ((c.tc : Thread Cert.RBwdIdeal.nD Cert.RBwdIdeal.τ).loc Cert.RBwdIdeal.main_arg8)
      ∧ r.2.mem ((c.tc : Thread Cert.RBwdIdeal.nD Cert.RBwdIdeal.τ).loc Cert.RBwdIdeal.main_arg9) = m ((c.tc : Thread Cert.RBwdIdeal.nD Cert.RBwdIdeal.τ).loc Cert.RBwdIdeal.main_arg9)
      ∧ r.2.mem ((c.tc : Thread Cert.RBwdIdeal.nD Cert.RBwdIdeal.τ).loc Cert.RBwdIdeal.main_arg10) = m ((c.tc : Thread Cert.RBwdIdeal.nD Cert.RBwdIdeal.τ).loc Cert.RBwdIdeal.main_arg10))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_RPrepIdeal [hRPrepIdeal : Cert.RPrepIdeal.Facts] : Prop :=
  ∀ (m : (ℓ : Loc Cert.RPrepIdeal.nD Cert.RPrepIdeal.τ Cert.RPrepIdeal.sig) → Buf (Elt Ideal) ℓ) (g : Dev Cert.RPrepIdeal.nD → PrngReg), Pre_RPrepIdeal m →
    θ_run (Cert.RPrepIdeal.defs (F := Ideal)) (onTc (τ := Cert.RPrepIdeal.τ) (Cert.RPrepIdeal.main (F := Ideal))) ⟨m, fun _ => 0, g⟩ (fun r => (∀ c : Dev Cert.RPrepIdeal.nD,
      r.2.mem ((c.tc : Thread Cert.RPrepIdeal.nD Cert.RPrepIdeal.τ).loc Cert.RPrepIdeal.main_arg0) = m ((c.tc : Thread Cert.RPrepIdeal.nD Cert.RPrepIdeal.τ).loc Cert.RPrepIdeal.main_arg0)
      ∧ r.2.mem ((c.tc : Thread Cert.RPrepIdeal.nD Cert.RPrepIdeal.τ).loc Cert.RPrepIdeal.main_arg1) = m ((c.tc : Thread Cert.RPrepIdeal.nD Cert.RPrepIdeal.τ).loc Cert.RPrepIdeal.main_arg1)
      ∧ r.2.mem ((c.tc : Thread Cert.RPrepIdeal.nD Cert.RPrepIdeal.τ).loc Cert.RPrepIdeal.main_arg2) = m ((c.tc : Thread Cert.RPrepIdeal.nD Cert.RPrepIdeal.τ).loc Cert.RPrepIdeal.main_arg2)
      ∧ r.2.mem ((c.tc : Thread Cert.RPrepIdeal.nD Cert.RPrepIdeal.τ).loc Cert.RPrepIdeal.main_arg3) = m ((c.tc : Thread Cert.RPrepIdeal.nD Cert.RPrepIdeal.τ).loc Cert.RPrepIdeal.main_arg3)
      ∧ r.2.mem ((c.tc : Thread Cert.RPrepIdeal.nD Cert.RPrepIdeal.τ).loc Cert.RPrepIdeal.main_arg4) = m ((c.tc : Thread Cert.RPrepIdeal.nD Cert.RPrepIdeal.τ).loc Cert.RPrepIdeal.main_arg4))
      ∧ r.2.sem = fun _ => 0)

def preserves_Y_YIdeal : Prop :=
  True

def algebraic_YIdeal_RYIdeal [hYIdeal : Cert.YIdeal.Facts] [hRYIdeal : Cert.RYIdeal.Facts] : Prop :=
  ∀ (m : (ℓ : Loc Cert.YIdeal.nD Cert.YIdeal.τ Cert.YIdeal.sig) → Buf (Elt Ideal) ℓ) (g : Dev Cert.YIdeal.nD → PrngReg)
    (m' : (ℓ : Loc Cert.RYIdeal.nD Cert.RYIdeal.τ Cert.RYIdeal.sig) → Buf (Elt Ideal) ℓ) (g' : Dev Cert.RYIdeal.nD → PrngReg), Pre_YIdeal m →
    (∀ c : Dev Cert.YIdeal.nD,
      m' ((c.tc : Thread Cert.RYIdeal.nD Cert.RYIdeal.τ).loc Cert.RYIdeal.main_arg0) = m ((c.tc : Thread Cert.YIdeal.nD Cert.YIdeal.τ).loc Cert.YIdeal.main_arg0)
      ∧ m' ((c.tc : Thread Cert.RYIdeal.nD Cert.RYIdeal.τ).loc Cert.RYIdeal.main_arg1) = m ((c.tc : Thread Cert.YIdeal.nD Cert.YIdeal.τ).loc Cert.YIdeal.main_arg1)
      ∧ m' ((c.tc : Thread Cert.RYIdeal.nD Cert.RYIdeal.τ).loc Cert.RYIdeal.main_arg2) = m ((c.tc : Thread Cert.YIdeal.nD Cert.YIdeal.τ).loc Cert.YIdeal.main_arg2)) →
    ∃ (v0 : (c : Dev Cert.YIdeal.nD) → Buf (Elt Ideal) ((c.tc : Thread Cert.YIdeal.nD Cert.YIdeal.τ).loc Cert.YIdeal.main_v0)),
      θ_run (Cert.YIdeal.defs (F := Ideal)) (onTc (τ := Cert.YIdeal.τ) (Cert.YIdeal.main (F := Ideal))) ⟨m, fun _ => 0, g⟩ (fun r => ∀ c : Dev Cert.YIdeal.nD,
          r.2.mem ((c.tc : Thread Cert.YIdeal.nD Cert.YIdeal.τ).loc Cert.YIdeal.main_v0) = v0 c
          ∧ r.2.mem ((c.tc : Thread Cert.YIdeal.nD Cert.YIdeal.τ).loc Cert.YIdeal.main_arg0) = m ((c.tc : Thread Cert.YIdeal.nD Cert.YIdeal.τ).loc Cert.YIdeal.main_arg0)
          ∧ r.2.mem ((c.tc : Thread Cert.YIdeal.nD Cert.YIdeal.τ).loc Cert.YIdeal.main_arg1) = m ((c.tc : Thread Cert.YIdeal.nD Cert.YIdeal.τ).loc Cert.YIdeal.main_arg1)
          ∧ r.2.mem ((c.tc : Thread Cert.YIdeal.nD Cert.YIdeal.τ).loc Cert.YIdeal.main_arg2) = m ((c.tc : Thread Cert.YIdeal.nD Cert.YIdeal.τ).loc Cert.YIdeal.main_arg2))
      ∧ θ_run (Cert.RYIdeal.defs (F := Ideal)) (onTc (τ := Cert.RYIdeal.τ) (Cert.RYIdeal.main (F := Ideal))) ⟨m', fun _ => 0, g'⟩ (fun r => ∀ c : Dev Cert.RYIdeal.nD,
          r.2.mem ((c.tc : Thread Cert.RYIdeal.nD Cert.RYIdeal.τ).loc Cert.RYIdeal.main_v0) = v0 c
          ∧ r.2.mem ((c.tc : Thread Cert.RYIdeal.nD Cert.RYIdeal.τ).loc Cert.RYIdeal.main_arg0) = m' ((c.tc : Thread Cert.RYIdeal.nD Cert.RYIdeal.τ).loc Cert.RYIdeal.main_arg0)
          ∧ r.2.mem ((c.tc : Thread Cert.RYIdeal.nD Cert.RYIdeal.τ).loc Cert.RYIdeal.main_arg1) = m' ((c.tc : Thread Cert.RYIdeal.nD Cert.RYIdeal.τ).loc Cert.RYIdeal.main_arg1)
          ∧ r.2.mem ((c.tc : Thread Cert.RYIdeal.nD Cert.RYIdeal.τ).loc Cert.RYIdeal.main_arg2) = m' ((c.tc : Thread Cert.RYIdeal.nD Cert.RYIdeal.τ).loc Cert.RYIdeal.main_arg2))

def preserves_Dx_DxIdeal : Prop :=
  True

def algebraic_DxIdeal_RDxIdeal_on_dgamma_row [hDxIdeal : Cert.DxIdeal.Facts] [hRDxIdeal : Cert.RDxIdeal.Facts] [hOn_dgamma_row : Cert.On_dgamma_row.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.RDxIdeal.nD Cert.RDxIdeal.τ Cert.RDxIdeal.sig) → Buf (Elt Ideal) ℓ) (g' : Dev Cert.RDxIdeal.nD → PrngReg), Pre_DxIdeal m →
    (∀ c : Dev Cert.DxIdeal.nD,
      m' ((c.tc : Thread Cert.RDxIdeal.nD Cert.RDxIdeal.τ).loc Cert.RDxIdeal.main_arg0) = m ((c.tc : Thread Cert.DxIdeal.nD Cert.DxIdeal.τ).loc Cert.DxIdeal.main_arg0)
      ∧ m' ((c.tc : Thread Cert.RDxIdeal.nD Cert.RDxIdeal.τ).loc Cert.RDxIdeal.main_arg1) = m ((c.tc : Thread Cert.DxIdeal.nD Cert.DxIdeal.τ).loc Cert.DxIdeal.main_arg1)
      ∧ m' ((c.tc : Thread Cert.RDxIdeal.nD Cert.RDxIdeal.τ).loc Cert.RDxIdeal.main_arg2) = m ((c.tc : Thread Cert.DxIdeal.nD Cert.DxIdeal.τ).loc Cert.DxIdeal.main_arg2)
      ∧ m' ((c.tc : Thread Cert.RDxIdeal.nD Cert.RDxIdeal.τ).loc Cert.RDxIdeal.main_arg3) = m ((c.tc : Thread Cert.DxIdeal.nD Cert.DxIdeal.τ).loc Cert.DxIdeal.main_arg3)
      ∧ m' ((c.tc : Thread Cert.RDxIdeal.nD Cert.RDxIdeal.τ).loc Cert.RDxIdeal.main_arg4) = m ((c.tc : Thread Cert.DxIdeal.nD Cert.DxIdeal.τ).loc Cert.DxIdeal.main_arg4)
      ∧ m' ((c.tc : Thread Cert.RDxIdeal.nD Cert.RDxIdeal.τ).loc Cert.RDxIdeal.main_arg5) = m ((c.tc : Thread Cert.DxIdeal.nD Cert.DxIdeal.τ).loc Cert.DxIdeal.main_arg5)
      ∧ m' ((c.tc : Thread Cert.RDxIdeal.nD Cert.RDxIdeal.τ).loc Cert.RDxIdeal.main_arg6) = m ((c.tc : Thread Cert.DxIdeal.nD Cert.DxIdeal.τ).loc Cert.DxIdeal.main_arg6)
      ∧ m' ((c.tc : Thread Cert.RDxIdeal.nD Cert.RDxIdeal.τ).loc Cert.RDxIdeal.main_arg7) = m ((c.tc : Thread Cert.DxIdeal.nD Cert.DxIdeal.τ).loc Cert.DxIdeal.main_arg7)
      ∧ m' ((c.tc : Thread Cert.RDxIdeal.nD Cert.RDxIdeal.τ).loc Cert.RDxIdeal.main_arg8) = m ((c.tc : Thread Cert.DxIdeal.nD Cert.DxIdeal.τ).loc Cert.DxIdeal.main_arg8)
      ∧ m' ((c.tc : Thread Cert.RDxIdeal.nD Cert.RDxIdeal.τ).loc Cert.RDxIdeal.main_arg9) = m ((c.tc : Thread Cert.DxIdeal.nD Cert.DxIdeal.τ).loc Cert.DxIdeal.main_arg9)) →
    ∃ (v0 : (c : Dev Cert.DxIdeal.nD) → Buf (Elt Ideal) ((c.tc : Thread Cert.DxIdeal.nD Cert.DxIdeal.τ).loc Cert.DxIdeal.main_v6_0)) (v1 : (c : Dev Cert.DxIdeal.nD) → Buf (Elt Ideal) ((c.tc : Thread Cert.DxIdeal.nD Cert.DxIdeal.τ).loc Cert.DxIdeal.main_v6_1)) (v2 : (c : Dev Cert.DxIdeal.nD) → Buf (Elt Ideal) ((c.tc : Thread Cert.DxIdeal.nD Cert.DxIdeal.τ).loc Cert.DxIdeal.main_v6_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          (∀ i : (⟨2, ![2048, 3072]⟩ : Shape).Idx, (Cert.On_dgamma_row.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).1 i = 1#1 → r.2.mem ((c.tc : Thread Cert.DxIdeal.nD Cert.DxIdeal.τ).loc Cert.DxIdeal.main_v6_0) i = v0 c i)
          ∧ (∀ i : (⟨2, ![1, 2048]⟩ : Shape).Idx, (Cert.On_dgamma_row.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.1 i = 1#1 → r.2.mem ((c.tc : Thread Cert.DxIdeal.nD Cert.DxIdeal.τ).loc Cert.DxIdeal.main_v6_1) i = v1 c i)
          ∧ (∀ i : (⟨2, ![8, 3072]⟩ : Shape).Idx, (Cert.On_dgamma_row.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2 i = 1#1 → r.2.mem ((c.tc : Thread Cert.DxIdeal.nD Cert.DxIdeal.τ).loc Cert.DxIdeal.main_v6_2) i = v2 c i)
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ θ_run (Cert.RDxIdeal.defs (F := Ideal)) (onTc (τ := Cert.RDxIdeal.τ) (Cert.RDxIdeal.main (F := Ideal))) ⟨m', fun _ => 0, g'⟩ (fun r => ∀ c : Dev Cert.RDxIdeal.nD,
          (∀ i : (⟨2, ![2048, 3072]⟩ : Shape).Idx, (Cert.On_dgamma_row.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).1 i = 1#1 → r.2.mem ((c.tc : Thread Cert.RDxIdeal.nD Cert.RDxIdeal.τ).loc Cert.RDxIdeal.main_v6_0) i = v0 c i)
          ∧ (∀ i : (⟨2, ![1, 2048]⟩ : Shape).Idx, (Cert.On_dgamma_row.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.1 i = 1#1 → r.2.mem ((c.tc : Thread Cert.RDxIdeal.nD Cert.RDxIdeal.τ).loc Cert.RDxIdeal.main_v6_1) i = v1 c i)
          ∧ (∀ i : (⟨2, ![8, 3072]⟩ : Shape).Idx, (Cert.On_dgamma_row.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9))).2.2 i = 1#1 → r.2.mem ((c.tc : Thread Cert.RDxIdeal.nD Cert.RDxIdeal.τ).loc Cert.RDxIdeal.main_v6_2) i = v2 c i)
          ∧ r.2.mem ((c.tc : Thread Cert.RDxIdeal.nD Cert.RDxIdeal.τ).loc Cert.RDxIdeal.main_arg0) = m' ((c.tc : Thread Cert.RDxIdeal.nD Cert.RDxIdeal.τ).loc Cert.RDxIdeal.main_arg0)
          ∧ r.2.mem ((c.tc : Thread Cert.RDxIdeal.nD Cert.RDxIdeal.τ).loc Cert.RDxIdeal.main_arg1) = m' ((c.tc : Thread Cert.RDxIdeal.nD Cert.RDxIdeal.τ).loc Cert.RDxIdeal.main_arg1)
          ∧ r.2.mem ((c.tc : Thread Cert.RDxIdeal.nD Cert.RDxIdeal.τ).loc Cert.RDxIdeal.main_arg2) = m' ((c.tc : Thread Cert.RDxIdeal.nD Cert.RDxIdeal.τ).loc Cert.RDxIdeal.main_arg2)
          ∧ r.2.mem ((c.tc : Thread Cert.RDxIdeal.nD Cert.RDxIdeal.τ).loc Cert.RDxIdeal.main_arg3) = m' ((c.tc : Thread Cert.RDxIdeal.nD Cert.RDxIdeal.τ).loc Cert.RDxIdeal.main_arg3)
          ∧ r.2.mem ((c.tc : Thread Cert.RDxIdeal.nD Cert.RDxIdeal.τ).loc Cert.RDxIdeal.main_arg4) = m' ((c.tc : Thread Cert.RDxIdeal.nD Cert.RDxIdeal.τ).loc Cert.RDxIdeal.main_arg4)
          ∧ r.2.mem ((c.tc : Thread Cert.RDxIdeal.nD Cert.RDxIdeal.τ).loc Cert.RDxIdeal.main_arg5) = m' ((c.tc : Thread Cert.RDxIdeal.nD Cert.RDxIdeal.τ).loc Cert.RDxIdeal.main_arg5)
          ∧ r.2.mem ((c.tc : Thread Cert.RDxIdeal.nD Cert.RDxIdeal.τ).loc Cert.RDxIdeal.main_arg6) = m' ((c.tc : Thread Cert.RDxIdeal.nD Cert.RDxIdeal.τ).loc Cert.RDxIdeal.main_arg6)
          ∧ r.2.mem ((c.tc : Thread Cert.RDxIdeal.nD Cert.RDxIdeal.τ).loc Cert.RDxIdeal.main_arg7) = m' ((c.tc : Thread Cert.RDxIdeal.nD Cert.RDxIdeal.τ).loc Cert.RDxIdeal.main_arg7)
          ∧ r.2.mem ((c.tc : Thread Cert.RDxIdeal.nD Cert.RDxIdeal.τ).loc Cert.RDxIdeal.main_arg8) = m' ((c.tc : Thread Cert.RDxIdeal.nD Cert.RDxIdeal.τ).loc Cert.RDxIdeal.main_arg8)
          ∧ r.2.mem ((c.tc : Thread Cert.RDxIdeal.nD Cert.RDxIdeal.τ).loc Cert.RDxIdeal.main_arg9) = m' ((c.tc : Thread Cert.RDxIdeal.nD Cert.RDxIdeal.τ).loc Cert.RDxIdeal.main_arg9))

def preserves_Bwd_BwdIdeal : Prop :=
  True

def algebraic_BwdIdeal_RBwdIdeal [hBwdIdeal : Cert.BwdIdeal.Facts] [hRBwdIdeal : Cert.RBwdIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.RBwdIdeal.nD Cert.RBwdIdeal.τ Cert.RBwdIdeal.sig) → Buf (Elt Ideal) ℓ) (g' : Dev Cert.RBwdIdeal.nD → PrngReg), Pre_BwdIdeal m →
    (∀ c : Dev Cert.BwdIdeal.nD,
      m' ((c.tc : Thread Cert.RBwdIdeal.nD Cert.RBwdIdeal.τ).loc Cert.RBwdIdeal.main_arg0) = m ((c.tc : Thread Cert.BwdIdeal.nD Cert.BwdIdeal.τ).loc Cert.BwdIdeal.main_arg0)
      ∧ m' ((c.tc : Thread Cert.RBwdIdeal.nD Cert.RBwdIdeal.τ).loc Cert.RBwdIdeal.main_arg1) = m ((c.tc : Thread Cert.BwdIdeal.nD Cert.BwdIdeal.τ).loc Cert.BwdIdeal.main_arg1)
      ∧ m' ((c.tc : Thread Cert.RBwdIdeal.nD Cert.RBwdIdeal.τ).loc Cert.RBwdIdeal.main_arg2) = m ((c.tc : Thread Cert.BwdIdeal.nD Cert.BwdIdeal.τ).loc Cert.BwdIdeal.main_arg2)
      ∧ m' ((c.tc : Thread Cert.RBwdIdeal.nD Cert.RBwdIdeal.τ).loc Cert.RBwdIdeal.main_arg3) = m ((c.tc : Thread Cert.BwdIdeal.nD Cert.BwdIdeal.τ).loc Cert.BwdIdeal.main_arg3)
      ∧ m' ((c.tc : Thread Cert.RBwdIdeal.nD Cert.RBwdIdeal.τ).loc Cert.RBwdIdeal.main_arg4) = m ((c.tc : Thread Cert.BwdIdeal.nD Cert.BwdIdeal.τ).loc Cert.BwdIdeal.main_arg4)
      ∧ m' ((c.tc : Thread Cert.RBwdIdeal.nD Cert.RBwdIdeal.τ).loc Cert.RBwdIdeal.main_arg5) = m ((c.tc : Thread Cert.BwdIdeal.nD Cert.BwdIdeal.τ).loc Cert.BwdIdeal.main_arg5)
      ∧ m' ((c.tc : Thread Cert.RBwdIdeal.nD Cert.RBwdIdeal.τ).loc Cert.RBwdIdeal.main_arg6) = m ((c.tc : Thread Cert.BwdIdeal.nD Cert.BwdIdeal.τ).loc Cert.BwdIdeal.main_arg6)
      ∧ m' ((c.tc : Thread Cert.RBwdIdeal.nD Cert.RBwdIdeal.τ).loc Cert.RBwdIdeal.main_arg7) = m ((c.tc : Thread Cert.BwdIdeal.nD Cert.BwdIdeal.τ).loc Cert.BwdIdeal.main_arg7)
      ∧ m' ((c.tc : Thread Cert.RBwdIdeal.nD Cert.RBwdIdeal.τ).loc Cert.RBwdIdeal.main_arg8) = m ((c.tc : Thread Cert.BwdIdeal.nD Cert.BwdIdeal.τ).loc Cert.BwdIdeal.main_arg8)
      ∧ m' ((c.tc : Thread Cert.RBwdIdeal.nD Cert.RBwdIdeal.τ).loc Cert.RBwdIdeal.main_arg9) = m ((c.tc : Thread Cert.BwdIdeal.nD Cert.BwdIdeal.τ).loc Cert.BwdIdeal.main_arg9)
      ∧ m' ((c.tc : Thread Cert.RBwdIdeal.nD Cert.RBwdIdeal.τ).loc Cert.RBwdIdeal.main_arg10) = m ((c.tc : Thread Cert.BwdIdeal.nD Cert.BwdIdeal.τ).loc Cert.BwdIdeal.main_arg10)) →
    ∃ (v0 : (c : Dev Cert.BwdIdeal.nD) → Buf (Elt Ideal) ((c.tc : Thread Cert.BwdIdeal.nD Cert.BwdIdeal.τ).loc Cert.BwdIdeal.main_v4_0)) (v1 : (c : Dev Cert.BwdIdeal.nD) → Buf (Elt Ideal) ((c.tc : Thread Cert.BwdIdeal.nD Cert.BwdIdeal.τ).loc Cert.BwdIdeal.main_v4_1)) (v2 : (c : Dev Cert.BwdIdeal.nD) → Buf (Elt Ideal) ((c.tc : Thread Cert.BwdIdeal.nD Cert.BwdIdeal.τ).loc Cert.BwdIdeal.main_v4_2)) (v3 : (c : Dev Cert.BwdIdeal.nD) → Buf (Elt Ideal) ((c.tc : Thread Cert.BwdIdeal.nD Cert.BwdIdeal.τ).loc Cert.BwdIdeal.main_v4_3)) (v4 : (c : Dev Cert.BwdIdeal.nD) → Buf (Elt Ideal) ((c.tc : Thread Cert.BwdIdeal.nD Cert.BwdIdeal.τ).loc Cert.BwdIdeal.main_v4_4)) (v5 : (c : Dev Cert.BwdIdeal.nD) → Buf (Elt Ideal) ((c.tc : Thread Cert.BwdIdeal.nD Cert.BwdIdeal.τ).loc Cert.BwdIdeal.main_v4_5)) (v6 : (c : Dev Cert.BwdIdeal.nD) → Buf (Elt Ideal) ((c.tc : Thread Cert.BwdIdeal.nD Cert.BwdIdeal.τ).loc Cert.BwdIdeal.main_v4_6)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v4_0) = v0 c
          ∧ r.2.mem ((c.tc : Thread Cert.BwdIdeal.nD Cert.BwdIdeal.τ).loc Cert.BwdIdeal.main_v4_1) = v1 c
          ∧ r.2.mem ((c.tc : Thread Cert.BwdIdeal.nD Cert.BwdIdeal.τ).loc Cert.BwdIdeal.main_v4_2) = v2 c
          ∧ r.2.mem ((c.tc : Thread Cert.BwdIdeal.nD Cert.BwdIdeal.τ).loc Cert.BwdIdeal.main_v4_3) = v3 c
          ∧ r.2.mem ((c.tc : Thread Cert.BwdIdeal.nD Cert.BwdIdeal.τ).loc Cert.BwdIdeal.main_v4_4) = v4 c
          ∧ r.2.mem ((c.tc : Thread Cert.BwdIdeal.nD Cert.BwdIdeal.τ).loc Cert.BwdIdeal.main_v4_5) = v5 c
          ∧ r.2.mem ((c.tc : Thread Cert.BwdIdeal.nD Cert.BwdIdeal.τ).loc Cert.BwdIdeal.main_v4_6) = v6 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
          ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9)
          ∧ r.2.mem ((c.tc : Thread Cert.BwdIdeal.nD Cert.BwdIdeal.τ).loc Cert.BwdIdeal.main_arg10) = m ((c.tc : Thread Cert.BwdIdeal.nD Cert.BwdIdeal.τ).loc Cert.BwdIdeal.main_arg10))
      ∧ θ_run (Cert.RBwdIdeal.defs (F := Ideal)) (onTc (τ := Cert.RBwdIdeal.τ) (Cert.RBwdIdeal.main (F := Ideal))) ⟨m', fun _ => 0, g'⟩ (fun r => ∀ c : Dev Cert.RBwdIdeal.nD,
          r.2.mem ((c.tc : Thread Cert.RBwdIdeal.nD Cert.RBwdIdeal.τ).loc Cert.RBwdIdeal.main_v4_0) = v0 c
          ∧ r.2.mem ((c.tc : Thread Cert.RBwdIdeal.nD Cert.RBwdIdeal.τ).loc Cert.RBwdIdeal.main_v4_1) = v1 c
          ∧ r.2.mem ((c.tc : Thread Cert.RBwdIdeal.nD Cert.RBwdIdeal.τ).loc Cert.RBwdIdeal.main_v4_2) = v2 c
          ∧ r.2.mem ((c.tc : Thread Cert.RBwdIdeal.nD Cert.RBwdIdeal.τ).loc Cert.RBwdIdeal.main_v4_3) = v3 c
          ∧ r.2.mem ((c.tc : Thread Cert.RBwdIdeal.nD Cert.RBwdIdeal.τ).loc Cert.RBwdIdeal.main_v4_4) = v4 c
          ∧ r.2.mem ((c.tc : Thread Cert.RBwdIdeal.nD Cert.RBwdIdeal.τ).loc Cert.RBwdIdeal.main_v4_5) = v5 c
          ∧ r.2.mem ((c.tc : Thread Cert.RBwdIdeal.nD Cert.RBwdIdeal.τ).loc Cert.RBwdIdeal.main_v4_6) = v6 c
          ∧ r.2.mem ((c.tc : Thread Cert.RBwdIdeal.nD Cert.RBwdIdeal.τ).loc Cert.RBwdIdeal.main_arg0) = m' ((c.tc : Thread Cert.RBwdIdeal.nD Cert.RBwdIdeal.τ).loc Cert.RBwdIdeal.main_arg0)
          ∧ r.2.mem ((c.tc : Thread Cert.RBwdIdeal.nD Cert.RBwdIdeal.τ).loc Cert.RBwdIdeal.main_arg1) = m' ((c.tc : Thread Cert.RBwdIdeal.nD Cert.RBwdIdeal.τ).loc Cert.RBwdIdeal.main_arg1)
          ∧ r.2.mem ((c.tc : Thread Cert.RBwdIdeal.nD Cert.RBwdIdeal.τ).loc Cert.RBwdIdeal.main_arg2) = m' ((c.tc : Thread Cert.RBwdIdeal.nD Cert.RBwdIdeal.τ).loc Cert.RBwdIdeal.main_arg2)
          ∧ r.2.mem ((c.tc : Thread Cert.RBwdIdeal.nD Cert.RBwdIdeal.τ).loc Cert.RBwdIdeal.main_arg3) = m' ((c.tc : Thread Cert.RBwdIdeal.nD Cert.RBwdIdeal.τ).loc Cert.RBwdIdeal.main_arg3)
          ∧ r.2.mem ((c.tc : Thread Cert.RBwdIdeal.nD Cert.RBwdIdeal.τ).loc Cert.RBwdIdeal.main_arg4) = m' ((c.tc : Thread Cert.RBwdIdeal.nD Cert.RBwdIdeal.τ).loc Cert.RBwdIdeal.main_arg4)
          ∧ r.2.mem ((c.tc : Thread Cert.RBwdIdeal.nD Cert.RBwdIdeal.τ).loc Cert.RBwdIdeal.main_arg5) = m' ((c.tc : Thread Cert.RBwdIdeal.nD Cert.RBwdIdeal.τ).loc Cert.RBwdIdeal.main_arg5)
          ∧ r.2.mem ((c.tc : Thread Cert.RBwdIdeal.nD Cert.RBwdIdeal.τ).loc Cert.RBwdIdeal.main_arg6) = m' ((c.tc : Thread Cert.RBwdIdeal.nD Cert.RBwdIdeal.τ).loc Cert.RBwdIdeal.main_arg6)
          ∧ r.2.mem ((c.tc : Thread Cert.RBwdIdeal.nD Cert.RBwdIdeal.τ).loc Cert.RBwdIdeal.main_arg7) = m' ((c.tc : Thread Cert.RBwdIdeal.nD Cert.RBwdIdeal.τ).loc Cert.RBwdIdeal.main_arg7)
          ∧ r.2.mem ((c.tc : Thread Cert.RBwdIdeal.nD Cert.RBwdIdeal.τ).loc Cert.RBwdIdeal.main_arg8) = m' ((c.tc : Thread Cert.RBwdIdeal.nD Cert.RBwdIdeal.τ).loc Cert.RBwdIdeal.main_arg8)
          ∧ r.2.mem ((c.tc : Thread Cert.RBwdIdeal.nD Cert.RBwdIdeal.τ).loc Cert.RBwdIdeal.main_arg9) = m' ((c.tc : Thread Cert.RBwdIdeal.nD Cert.RBwdIdeal.τ).loc Cert.RBwdIdeal.main_arg9)
          ∧ r.2.mem ((c.tc : Thread Cert.RBwdIdeal.nD Cert.RBwdIdeal.τ).loc Cert.RBwdIdeal.main_arg10) = m' ((c.tc : Thread Cert.RBwdIdeal.nD Cert.RBwdIdeal.τ).loc Cert.RBwdIdeal.main_arg10))

def preserves_Prep_PrepIdeal : Prop :=
  True

def algebraic_PrepIdeal_RPrepIdeal [hPrepIdeal : Cert.PrepIdeal.Facts] [hRPrepIdeal : Cert.RPrepIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.RPrepIdeal.nD Cert.RPrepIdeal.τ Cert.RPrepIdeal.sig) → Buf (Elt Ideal) ℓ) (g' : Dev Cert.RPrepIdeal.nD → PrngReg), Pre_PrepIdeal m →
    (∀ c : Dev Cert.PrepIdeal.nD,
      m' ((c.tc : Thread Cert.RPrepIdeal.nD Cert.RPrepIdeal.τ).loc Cert.RPrepIdeal.main_arg0) = m ((c.tc : Thread Cert.PrepIdeal.nD Cert.PrepIdeal.τ).loc Cert.PrepIdeal.main_arg0)
      ∧ m' ((c.tc : Thread Cert.RPrepIdeal.nD Cert.RPrepIdeal.τ).loc Cert.RPrepIdeal.main_arg1) = m ((c.tc : Thread Cert.PrepIdeal.nD Cert.PrepIdeal.τ).loc Cert.PrepIdeal.main_arg1)
      ∧ m' ((c.tc : Thread Cert.RPrepIdeal.nD Cert.RPrepIdeal.τ).loc Cert.RPrepIdeal.main_arg2) = m ((c.tc : Thread Cert.PrepIdeal.nD Cert.PrepIdeal.τ).loc Cert.PrepIdeal.main_arg2)
      ∧ m' ((c.tc : Thread Cert.RPrepIdeal.nD Cert.RPrepIdeal.τ).loc Cert.RPrepIdeal.main_arg3) = m ((c.tc : Thread Cert.PrepIdeal.nD Cert.PrepIdeal.τ).loc Cert.PrepIdeal.main_arg3)
      ∧ m' ((c.tc : Thread Cert.RPrepIdeal.nD Cert.RPrepIdeal.τ).loc Cert.RPrepIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)) (v2 : (c : Dev Cert.PrepIdeal.nD) → Buf (Elt Ideal) ((c.tc : Thread Cert.PrepIdeal.nD Cert.PrepIdeal.τ).loc Cert.PrepIdeal.main_v5_2)) (v3 : (c : Dev Cert.PrepIdeal.nD) → Buf (Elt Ideal) ((c.tc : Thread Cert.PrepIdeal.nD Cert.PrepIdeal.τ).loc Cert.PrepIdeal.main_v5_3)) (v4 : (c : Dev Cert.PrepIdeal.nD) → Buf (Elt Ideal) ((c.tc : Thread Cert.PrepIdeal.nD Cert.PrepIdeal.τ).loc Cert.PrepIdeal.main_v5_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_v5_2) = v2 c
          ∧ r.2.mem ((c.tc : Thread Cert.PrepIdeal.nD Cert.PrepIdeal.τ).loc Cert.PrepIdeal.main_v5_3) = v3 c
          ∧ r.2.mem ((c.tc : Thread Cert.PrepIdeal.nD Cert.PrepIdeal.τ).loc Cert.PrepIdeal.main_v5_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.RPrepIdeal.defs (F := Ideal)) (onTc (τ := Cert.RPrepIdeal.τ) (Cert.RPrepIdeal.main (F := Ideal))) ⟨m', fun _ => 0, g'⟩ (fun r => ∀ c : Dev Cert.RPrepIdeal.nD,
          r.2.mem ((c.tc : Thread Cert.RPrepIdeal.nD Cert.RPrepIdeal.τ).loc Cert.RPrepIdeal.main_v5_0) = v0 c
          ∧ r.2.mem ((c.tc : Thread Cert.RPrepIdeal.nD Cert.RPrepIdeal.τ).loc Cert.RPrepIdeal.main_v5_1) = v1 c
          ∧ r.2.mem ((c.tc : Thread Cert.RPrepIdeal.nD Cert.RPrepIdeal.τ).loc Cert.RPrepIdeal.main_v5_2) = v2 c
          ∧ r.2.mem ((c.tc : Thread Cert.RPrepIdeal.nD Cert.RPrepIdeal.τ).loc Cert.RPrepIdeal.main_v5_3) = v3 c
          ∧ r.2.mem ((c.tc : Thread Cert.RPrepIdeal.nD Cert.RPrepIdeal.τ).loc Cert.RPrepIdeal.main_v5_4) = v4 c
          ∧ r.2.mem ((c.tc : Thread Cert.RPrepIdeal.nD Cert.RPrepIdeal.τ).loc Cert.RPrepIdeal.main_arg0) = m' ((c.tc : Thread Cert.RPrepIdeal.nD Cert.RPrepIdeal.τ).loc Cert.RPrepIdeal.main_arg0)
          ∧ r.2.mem ((c.tc : Thread Cert.RPrepIdeal.nD Cert.RPrepIdeal.τ).loc Cert.RPrepIdeal.main_arg1) = m' ((c.tc : Thread Cert.RPrepIdeal.nD Cert.RPrepIdeal.τ).loc Cert.RPrepIdeal.main_arg1)
          ∧ r.2.mem ((c.tc : Thread Cert.RPrepIdeal.nD Cert.RPrepIdeal.τ).loc Cert.RPrepIdeal.main_arg2) = m' ((c.tc : Thread Cert.RPrepIdeal.nD Cert.RPrepIdeal.τ).loc Cert.RPrepIdeal.main_arg2)
          ∧ r.2.mem ((c.tc : Thread Cert.RPrepIdeal.nD Cert.RPrepIdeal.τ).loc Cert.RPrepIdeal.main_arg3) = m' ((c.tc : Thread Cert.RPrepIdeal.nD Cert.RPrepIdeal.τ).loc Cert.RPrepIdeal.main_arg3)
          ∧ r.2.mem ((c.tc : Thread Cert.RPrepIdeal.nD Cert.RPrepIdeal.τ).loc Cert.RPrepIdeal.main_arg4) = m' ((c.tc : Thread Cert.RPrepIdeal.nD Cert.RPrepIdeal.τ).loc Cert.RPrepIdeal.main_arg4))

def Claim : Prop :=
  ∃ (hY : Cert.Y.Facts) (hYIdeal : Cert.YIdeal.Facts) (hRYIdeal : Cert.RYIdeal.Facts) (hDx : Cert.Dx.Facts) (hDxIdeal : Cert.DxIdeal.Facts) (hRDxIdeal : Cert.RDxIdeal.Facts) (hBwd : Cert.Bwd.Facts) (hBwdIdeal : Cert.BwdIdeal.Facts) (hRBwdIdeal : Cert.RBwdIdeal.Facts) (hPrep : Cert.Prep.Facts) (hPrepIdeal : Cert.PrepIdeal.Facts) (hRPrepIdeal : Cert.RPrepIdeal.Facts) (hOn_dgamma_row : Cert.On_dgamma_row.Facts),
    quiescent_Y (hY := hY)
    ∧ quiescent_YIdeal (hYIdeal := hYIdeal)
    ∧ quiescent_RYIdeal (hRYIdeal := hRYIdeal)
    ∧ quiescent_Dx (hDx := hDx)
    ∧ quiescent_DxIdeal (hDxIdeal := hDxIdeal)
    ∧ quiescent_RDxIdeal (hRDxIdeal := hRDxIdeal)
    ∧ quiescent_Bwd (hBwd := hBwd)
    ∧ quiescent_BwdIdeal (hBwdIdeal := hBwdIdeal)
    ∧ quiescent_RBwdIdeal (hRBwdIdeal := hRBwdIdeal)
    ∧ quiescent_Prep (hPrep := hPrep)
    ∧ quiescent_PrepIdeal (hPrepIdeal := hPrepIdeal)
    ∧ quiescent_RPrepIdeal (hRPrepIdeal := hRPrepIdeal)
    ∧ preserves_Y_YIdeal
    ∧ algebraic_YIdeal_RYIdeal (hYIdeal := hYIdeal) (hRYIdeal := hRYIdeal)
    ∧ preserves_Dx_DxIdeal
    ∧ algebraic_DxIdeal_RDxIdeal_on_dgamma_row (hDxIdeal := hDxIdeal) (hRDxIdeal := hRDxIdeal) (hOn_dgamma_row := hOn_dgamma_row)
    ∧ preserves_Bwd_BwdIdeal
    ∧ algebraic_BwdIdeal_RBwdIdeal (hBwdIdeal := hBwdIdeal) (hRBwdIdeal := hRBwdIdeal)
    ∧ preserves_Prep_PrepIdeal
    ∧ algebraic_PrepIdeal_RPrepIdeal (hPrepIdeal := hPrepIdeal) (hRPrepIdeal := hRPrepIdeal)
-- ==== On_dgamma_row.lean ====
abbrev S_ : Shape := ⟨0, ![]⟩
abbrev S2048x8192 : Shape := ⟨2, ![2048, 8192]⟩
abbrev S3072x8192 : Shape := ⟨2, ![3072, 8192]⟩
abbrev S1x2048x3072 : Shape := ⟨3, ![1, 2048, 3072]⟩
abbrev S3072 : Shape := ⟨1, ![3072]⟩
abbrev S2048x3072 : Shape := ⟨2, ![2048, 3072]⟩
abbrev S1x2048 : Shape := ⟨2, ![1, 2048]⟩
abbrev S8x3072 : Shape := ⟨2, ![8, 3072]⟩

class Facts : Prop where
  bcast_S_S2048x3072 : S_.BroadcastsInDim S2048x3072 (![] : Fin 0 → Fin S2048x3072.rank)
  bcast_S_S1x2048 : S_.BroadcastsInDim S1x2048 (![] : Fin 0 → Fin S1x2048.rank)
  bcast_S_S8x3072 : S_.BroadcastsInDim S8x3072 (![] : Fin 0 → Fin S8x3072.rank)

variable [Facts]

def fn {F : FTy → Type} [FloatOps F] (main_arg0 : FVec F S_ .f32) (main_arg1 : FVec F S_ .f32) (main_arg2 : FVec F S_ .f32) (main_arg3 : FVec F S_ .f32) (main_arg4 : FVec F S2048x8192 .fp8e5m2) (main_arg5 : FVec F S2048x8192 .fp8e5m2) (main_arg6 : FVec F S3072x8192 .fp8e4m3) (main_arg7 : FVec F S3072x8192 .fp8e4m3) (main_arg8 : FVec F S1x2048x3072 .bf16) (main_arg9 : FVec F S3072 .f32) : IVec S2048x3072 1 × IVec S1x2048 1 × IVec S8x3072 1 :=
  let main_c : IVec S_ 1 := constantI S_ 1 1#1
  let main_v0 : IVec S2048x3072 1 := broadcastInDim S2048x3072 ![] bcast_S_S2048x3072 main_c
  let main_c_0 : IVec S_ 1 := constantI S_ 1 1#1
  let main_v1 : IVec S1x2048 1 := broadcastInDim S1x2048 ![] bcast_S_S1x2048 main_c_0
  let main_v2 : IVec S8x3072 32 := iotaInDim S8x3072 32 0
  let main_c_1 : IVec S_ 32 := constantI S_ 32 0#32
  let main_v3 : IVec S8x3072 32 := broadcastInDim S8x3072 ![] bcast_S_S8x3072 main_c_1
  let main_v4 : IVec S8x3072 1 := cmpi .eq main_v2 main_v3
  (main_v0, main_v1, main_v4)
-- ==== Y.lean ====
abbrev S1x1 : Shape := ⟨2, ![1, 1]⟩
abbrev S2048x8192 : Shape := ⟨2, ![2048, 8192]⟩
abbrev S8192x3072 : Shape := ⟨2, ![8192, 3072]⟩
abbrev S2048x3072 : Shape := ⟨2, ![2048, 3072]⟩
abbrev S1024x8192 : Shape := ⟨2, ![1024, 8192]⟩
abbrev S8192x256 : Shape := ⟨2, ![8192, 256]⟩
abbrev S1024x256 : Shape := ⟨2, ![1024, 256]⟩

abbrev nBuf : Space → Nat
  | .hbm => 4
  | .vmem => 6
  | .smem => 1
  | _ => 0

abbrev bufTy : (tb : Table) → Fin (tcTables nBuf tb) → BufTy
  | .hbm, ⟨0, _⟩ => ⟨S1x1, .f32⟩
  | .hbm, ⟨1, _⟩ => ⟨S2048x8192, .bf16⟩
  | .hbm, ⟨2, _⟩ => ⟨S8192x3072, .fp8e4m3⟩
  | .hbm, ⟨3, _⟩ => ⟨S2048x3072, .bf16⟩
  | .local _ .vmem, ⟨0, _⟩ => ⟨S1024x8192, .bf16⟩
  | .local _ .vmem, ⟨1, _⟩ => ⟨S1024x8192, .bf16⟩
  | .local _ .vmem, ⟨2, _⟩ => ⟨S8192x256, .fp8e4m3⟩
  | .local _ .vmem, ⟨3, _⟩ => ⟨S8192x256, .fp8e4m3⟩
  | .local _ .vmem, ⟨4, _⟩ => ⟨S1024x256, .bf16⟩
  | .local _ .vmem, ⟨5, _⟩ => ⟨S1024x256, .bf16⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RYIdeal.lean ====
abbrev S1x1 : Shape := ⟨2, ![1, 1]⟩
abbrev S2048x8192 : Shape := ⟨2, ![2048, 8192]⟩
abbrev S8192x3072 : Shape := ⟨2, ![8192, 3072]⟩
abbrev S2048x3072 : Shape := ⟨2, ![2048, 3072]⟩

abbrev nBuf : Space → Nat
  | .hbm => 4
  | .vmem => 3
  | .smem => 1
  | _ => 0

abbrev bufTy : (tb : Table) → Fin (tcTables nBuf tb) → BufTy
  | .hbm, ⟨0, _⟩ => ⟨S1x1, .f32⟩
  | .hbm, ⟨1, _⟩ => ⟨S2048x8192, .bf16⟩
  | .hbm, ⟨2, _⟩ => ⟨S8192x3072, .fp8e4m3⟩
  | .hbm, ⟨3, _⟩ => ⟨S2048x3072, .bf16⟩
  | .local _ .vmem, ⟨0, _⟩ => ⟨S2048x8192, .bf16⟩
  | .local _ .vmem, ⟨1, _⟩ => ⟨S8192x3072, .fp8e4m3⟩
  | .local _ .vmem, ⟨2, _⟩ => ⟨S2048x3072, .bf16⟩
  | .local _ .smem, ⟨0, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Dx.lean ====
abbrev S_ : Shape := ⟨0, ![]⟩
abbrev S2048x8192 : Shape := ⟨2, ![2048, 8192]⟩
abbrev S3072x8192 : Shape := ⟨2, ![3072, 8192]⟩
abbrev S1x2048x3072 : Shape := ⟨3, ![1, 2048, 3072]⟩
abbrev S3072 : Shape := ⟨1, ![3072]⟩
abbrev S2048x3072 : Shape := ⟨2, ![2048, 3072]⟩
abbrev S1x3072 : Shape := ⟨2, ![1, 3072]⟩
abbrev S1x1 : Shape := ⟨2, ![1, 1]⟩
abbrev S1x2048 : Shape := ⟨2, ![1, 2048]⟩
abbrev S8x3072 : Shape := ⟨2, ![8, 3072]⟩
abbrev S512x8192 : Shape := ⟨2, ![512, 8192]⟩
abbrev S256x8192 : Shape := ⟨2, ![256, 8192]⟩
abbrev S512x3072 : Shape := ⟨2, ![512, 3072]⟩
abbrev S1x512 : Shape := ⟨2, ![1, 512]⟩
abbrev S512x256 : Shape := ⟨2, ![512, 256]⟩
abbrev S512 : Shape := ⟨1, ![512]⟩
abbrev S512x1 : Shape := ⟨2, ![512, 1]⟩
abbrev S64x8x3072 : Shape := ⟨3, ![64, 8, 3072]⟩
abbrev S512x128 : Shape := ⟨2, ![512, 128]⟩
abbrev S128x512 : Shape := ⟨2, ![128, 512]⟩

abbrev nBuf : Space → Nat
  | .hbm => 19
  | .vmem => 17
  | .smem => 2
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S2048x8192, .fp8e5m2⟩
  | .hbm, ⟨5, _⟩ => ⟨S2048x8192, .fp8e5m2⟩
  | .hbm, ⟨6, _⟩ => ⟨S3072x8192, .fp8e4m3⟩
  | .hbm, ⟨7, _⟩ => ⟨S3072x8192, .fp8e4m3⟩
  | .hbm, ⟨8, _⟩ => ⟨S1x2048x3072, .bf16⟩
  | .hbm, ⟨9, _⟩ => ⟨S3072, .f32⟩
  | .hbm, ⟨10, _⟩ => ⟨S2048x3072, .bf16⟩
  | .hbm, ⟨11, _⟩ => ⟨S1x3072, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S2048x3072, .bf16⟩
  | .hbm, ⟨17, _⟩ => ⟨S1x2048, .f32⟩
  | .hbm, ⟨18, _⟩ => ⟨S8x3072, .f32⟩
  | .local _ .vmem, ⟨0, _⟩ => ⟨S512x8192, .fp8e5m2⟩
  | .local _ .vmem, ⟨1, _⟩ => ⟨S512x8192, .fp8e5m2⟩
  | .local _ .vmem, ⟨2, _⟩ => ⟨S512x8192, .fp8e5m2⟩
  | .local _ .vmem, ⟨3, _⟩ => ⟨S512x8192, .fp8e5m2⟩
  | .local _ .vmem, ⟨4, _⟩ => ⟨S256x8192, .fp8e4m3⟩
  | .local _ .vmem, ⟨5, _⟩ => ⟨S256x8192, .fp8e4m3⟩
  | .local _ .vmem, ⟨6, _⟩ => ⟨S256x8192, .fp8e4m3⟩
  | .local _ .vmem, ⟨7, _⟩ => ⟨S256x8192, .fp8e4m3⟩
  | .local _ .vmem, ⟨8, _⟩ => ⟨S512x3072, .bf16⟩
  | .local _ .vmem, ⟨9, _⟩ => ⟨S512x3072, .bf16⟩
  | .local _ .vmem, ⟨10, _⟩ => ⟨S1x3072, .f32⟩
  | .local _ .vmem, ⟨11, _⟩ => ⟨S512x3072, .bf16⟩
  | .local _ .vmem, ⟨12, _⟩ => ⟨S512x3072, .bf16⟩
  | .local _ .vmem, ⟨13, _⟩ => ⟨S1x512, .f32⟩
  | .local _ .vmem, ⟨14, _⟩ => ⟨S1x512, .f32⟩
  | .local _ .vmem, ⟨15, _⟩ => ⟨S8x3072, .f32⟩
  | .local _ .vmem, ⟨16, _⟩ => ⟨S512x3072, .f32⟩
  | .local _ .smem, ⟨0, _⟩ => ⟨S1x1, .f32⟩
  | .local _ .smem, ⟨1, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![4, 12], ![false, false]⟩

def k0_off1 (i : grid0.Coords) : Fin 2 → Nat :=
  let c0_12 : Index := 0#32
  let arg1 : BitVec 32 := BitVec.ofNat 32 (i 1).val
  let c256_i32 : BitVec 32 := 256#32
  let v13 : BitVec 32 := Scalar.muli arg1 c256_i32
  let v14 : Index := Scalar.indexCast v13
  ![0, v14.toNat]
def k0_cond1 (i : grid0.Coords) : BitVec 1 :=
  let arg1 : BitVec 32 := BitVec.ofNat 32 (i 1).val
  let c11_i32 : BitVec 32 := 11#32
  let v18 : BitVec 1 := Scalar.cmpi .eq arg1 c11_i32
  let v19 : BitVec 32 := Scalar.extui v18
  let c0_i32 : BitVec 32 := 0#32
  let v20 : BitVec 1 := Scalar.cmpi .ne v19 c0_i32
  v20

def k0_cond2 (i : grid0.Coords) : BitVec 1 :=
  let arg0 : BitVec 32 := BitVec.ofNat 32 (i 0).val
  let c0_i32_22 : BitVec 32 := 0#32
  let v40 : BitVec 1 := Scalar.cmpi .eq arg0 c0_i32_22
  let v41 : BitVec 32 := Scalar.extui v40
  let c0_i32_23 : BitVec 32 := 0#32
  let v42 : BitVec 1 := Scalar.cmpi .ne v41 c0_i32_23
  v42

def k0_cond3 (i : grid0.Coords) : BitVec 1 :=
  let arg0 : BitVec 32 := BitVec.ofNat 32 (i 0).val
  let c0_i32_24 : BitVec 32 := 0#32
  let v43 : BitVec 1 := Scalar.cmpi .ne arg0 c0_i32_24
  let v44 : BitVec 32 := Scalar.extui v43
  let c0_i32_25 : BitVec 32 := 0#32
  let v45 : BitVec 1 := Scalar.cmpi .ne v44 c0_i32_25
  v45

def k0_cond4 (i : grid0.Coords) : BitVec 1 :=
  let arg0 : BitVec 32 := BitVec.ofNat 32 (i 0).val
  let c3_i32 : BitVec 32 := 3#32
  let v67 : BitVec 1 := Scalar.cmpi .eq arg0 c3_i32
  let v68 : BitVec 32 := Scalar.extui v67
  let c0_i32_34 : BitVec 32 := 0#32
  let v69 : BitVec 1 := Scalar.cmpi .ne v68 c0_i32_34
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x8192 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x8192 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== RDxIdeal.lean ====
abbrev S_ : Shape := ⟨0, ![]⟩
abbrev S2048x8192 : Shape := ⟨2, ![2048, 8192]⟩
abbrev S3072x8192 : Shape := ⟨2, ![3072, 8192]⟩
abbrev S1x2048x3072 : Shape := ⟨3, ![1, 2048, 3072]⟩
abbrev S3072 : Shape := ⟨1, ![3072]⟩
abbrev S2048x3072 : Shape := ⟨2, ![2048, 3072]⟩
abbrev S1x3072 : Shape := ⟨2, ![1, 3072]⟩
abbrev S1x1 : Shape := ⟨2, ![1, 1]⟩
abbrev S1x2048 : Shape := ⟨2, ![1, 2048]⟩
abbrev S8x3072 : Shape := ⟨2, ![8, 3072]⟩
abbrev S2048 : Shape := ⟨1, ![2048]⟩
abbrev S2048x1 : Shape := ⟨2, ![2048, 1]⟩

abbrev nBuf : Space → Nat
  | .hbm => 19
  | .vmem => 9
  | .smem => 4
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S2048x8192, .fp8e5m2⟩
  | .hbm, ⟨5, _⟩ => ⟨S2048x8192, .fp8e5m2⟩
  | .hbm, ⟨6, _⟩ => ⟨S3072x8192, .fp8e4m3⟩
  | .hbm, ⟨7, _⟩ => ⟨S3072x8192, .fp8e4m3⟩
  | .hbm, ⟨8, _⟩ => ⟨S1x2048x3072, .bf16⟩
  | .hbm, ⟨9, _⟩ => ⟨S3072, .f32⟩
  | .hbm, ⟨10, _⟩ => ⟨S2048x3072, .bf16⟩
  | .hbm, ⟨11, _⟩ => ⟨S1x3072, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S2048x3072, .bf16⟩
  | .hbm, ⟨17, _⟩ => ⟨S1x2048, .f32⟩
  | .hbm, ⟨18, _⟩ => ⟨S8x3072, .f32⟩
  | .local _ .vmem, ⟨0, _⟩ => ⟨S2048x8192, .fp8e5m2⟩
  | .local _ .vmem, ⟨1, _⟩ => ⟨S2048x8192, .fp8e5m2⟩
  | .local _ .vmem, ⟨2, _⟩ => ⟨S3072x8192, .fp8e4m3⟩
  | .local _ .vmem, ⟨3, _⟩ => ⟨S3072x8192, .fp8e4m3⟩
  | .local _ .vmem, ⟨4, _⟩ => ⟨S2048x3072, .bf16⟩
  | .local _ .vmem, ⟨5, _⟩ => ⟨S1x3072, .f32⟩
  | .local _ .vmem, ⟨6, _⟩ => ⟨S2048x3072, .bf16⟩
  | .local _ .vmem, ⟨7, _⟩ => ⟨S1x2048, .f32⟩
  | .local _ .vmem, ⟨8, _⟩ => ⟨S8x3072, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8192 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Bwd.lean ====
abbrev S1x1 : Shape := ⟨2, ![1, 1]⟩
abbrev S_ : Shape := ⟨0, ![]⟩
abbrev S3072x2048 : Shape := ⟨2, ![3072, 2048]⟩
abbrev S2048x3072 : Shape := ⟨2, ![2048, 3072]⟩
abbrev S8192x3072 : Shape := ⟨2, ![8192, 3072]⟩
abbrev S1x8192 : Shape := ⟨2, ![1, 8192]⟩
abbrev S2048x8192 : Shape := ⟨2, ![2048, 8192]⟩
abbrev S3072x8192 : Shape := ⟨2, ![3072, 8192]⟩
abbrev S256x3072 : Shape := ⟨2, ![256, 3072]⟩
abbrev S1x256 : Shape := ⟨2, ![1, 256]⟩
abbrev S2048x256 : Shape := ⟨2, ![2048, 256]⟩
abbrev S3072x256 : Shape := ⟨2, ![3072, 256]⟩
abbrev S8x256 : Shape := ⟨2, ![8, 256]⟩
abbrev S128x256 : Shape := ⟨2, ![128, 256]⟩
abbrev S256x128 : Shape := ⟨2, ![256, 128]⟩
abbrev S256x256 : Shape := ⟨2, ![256, 256]⟩
abbrev S32x8x256 : Shape := ⟨3, ![32, 8, 256]⟩
abbrev S1x8x256 : Shape := ⟨3, ![1, 8, 256]⟩
abbrev S1 : Shape := ⟨1, ![1]⟩
abbrev S1x1x1 : Shape := ⟨3, ![1, 1, 1]⟩

abbrev nBuf : Space → Nat
  | .hbm => 22
  | .vmem => 22
  | .smem => 7
  | _ => 0

abbrev bufTy : (tb : Table) → Fin (tcTables nBuf tb) → BufTy
  | .hbm, ⟨0, _⟩ => ⟨S1x1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S3072x2048, .fp8e4m3⟩
  | .hbm, ⟨6, _⟩ => ⟨S2048x3072, .fp8e5m2⟩
  | .hbm, ⟨7, _⟩ => ⟨S8192x3072, .bf16⟩
  | .hbm, ⟨8, _⟩ => ⟨S1x8192, .f32⟩
  | .hbm, ⟨9, _⟩ => ⟨S2048x8192, .f32⟩
  | .hbm, ⟨10, _⟩ => ⟨S2048x8192, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S8192x3072, .fp8e4m3⟩
  | .hbm, ⟨16, _⟩ => ⟨S2048x8192, .fp8e5m2⟩
  | .hbm, ⟨17, _⟩ => ⟨S2048x8192, .fp8e5m2⟩
  | .hbm, ⟨18, _⟩ => ⟨S3072x8192, .bf16⟩
  | .hbm, ⟨19, _⟩ => ⟨S3072x8192, .bf16⟩
  | .hbm, ⟨20, _⟩ => ⟨S1x1, .f32⟩
  | .hbm, ⟨21, _⟩ => ⟨S1x1, .f32⟩
  | .local _ .vmem, ⟨0, _⟩ => ⟨S3072x2048, .fp8e4m3⟩
  | .local _ .vmem, ⟨1, _⟩ => ⟨S2048x3072, .fp8e5m2⟩
  | .local _ .vmem, ⟨2, _⟩ => ⟨S256x3072, .bf16⟩
  | .local _ .vmem, ⟨3, _⟩ => ⟨S256x3072, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S256x3072, .fp8e4m3⟩
  | .local _ .vmem, ⟨11, _⟩ => ⟨S256x3072, .fp8e4m3⟩
  | .local _ .vmem, ⟨12, _⟩ => ⟨S2048x256, .fp8e5m2⟩
  | .local _ .vmem, ⟨13, _⟩ => ⟨S2048x256, .fp8e5m2⟩
  | .local _ .vmem, ⟨14, _⟩ => ⟨S2048x256, .fp8e5m2⟩
  | .local _ .vmem, ⟨15, _⟩ => ⟨S2048x256, .fp8e5m2⟩
  | .local _ .vmem, ⟨16, _⟩ => ⟨S3072x256, .bf16⟩
  | .local _ .vmem, ⟨17, _⟩ => ⟨S3072x256, .bf16⟩
  | .local _ .vmem, ⟨18, _⟩ => ⟨S3072x256, .bf16⟩
  | .local _ .vmem, ⟨19, _⟩ => ⟨S3072x256, .bf16⟩
  | .local _ .vmem, ⟨20, _⟩ => ⟨S8x256, .f32⟩
  | .local _ .vmem, ⟨21, _⟩ => ⟨S8x256, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg7_1 : Ref sig .tc := ⟨.vmem, 3, rfl⟩
abbrev cc0_stg8_0 : Ref sig .tc := ⟨.vmem, 4, rfl⟩
abbrev cc0_stg8_1 : Ref sig .tc := ⟨.vmem, 5, rfl⟩
abbrev cc0_stg9_0 : Ref sig .tc := ⟨.vmem, 6, rfl⟩
abbrev cc0_stg9_1 : Ref sig .tc := ⟨.vmem, 7, rfl⟩
abbrev cc0_stg10_0 : Ref sig .tc := ⟨.vmem, 8, rfl⟩
abbrev cc0_stg10_1 : Ref sig .tc := ⟨.vmem, 9, rfl⟩
abbrev cc0_stg11_0 : Ref sig .tc := ⟨.vmem, 10, rfl⟩
abbrev cc0_stg11_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_scratch1 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg16_0 : Ref sig .tc := ⟨.smem, 5, rfl⟩
abbrev cc0_stg17_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v679 : BitVec 1 := Scalar.cmpi .eq arg0 c31_i32
  let v680 : BitVec 32 := Scalar.extui v679
  let c0_i32_337 : BitVec 32 := 0#32
  let v681 : BitVec 1 := Scalar.cmpi .ne v680 c0_i32_337
  v681

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x3072 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3072x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3072x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .smem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== RBwdIdeal.lean ====
abbrev S1x1 : Shape := ⟨2, ![1, 1]⟩
abbrev S_ : Shape := ⟨0, ![]⟩
abbrev S3072x2048 : Shape := ⟨2, ![3072, 2048]⟩
abbrev S2048x3072 : Shape := ⟨2, ![2048, 3072]⟩
abbrev S8192x3072 : Shape := ⟨2, ![8192, 3072]⟩
abbrev S1x8192 : Shape := ⟨2, ![1, 8192]⟩
abbrev S2048x8192 : Shape := ⟨2, ![2048, 8192]⟩
abbrev S3072x8192 : Shape := ⟨2, ![3072, 8192]⟩
abbrev S8192x1 : Shape := ⟨2, ![8192, 1]⟩
abbrev S1x2048x8192 : Shape := ⟨3, ![1, 2048, 8192]⟩
abbrev S1 : Shape := ⟨1, ![1]⟩
abbrev S1x1x1 : Shape := ⟨3, ![1, 1, 1]⟩

abbrev nBuf : Space → Nat
  | .hbm => 22
  | .vmem => 11
  | .smem => 7
  | _ => 0

abbrev bufTy : (tb : Table) → Fin (tcTables nBuf tb) → BufTy
  | .hbm, ⟨0, _⟩ => ⟨S1x1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S3072x2048, .fp8e4m3⟩
  | .hbm, ⟨6, _⟩ => ⟨S2048x3072, .fp8e5m2⟩
  | .hbm, ⟨7, _⟩ => ⟨S8192x3072, .bf16⟩
  | .hbm, ⟨8, _⟩ => ⟨S1x8192, .f32⟩
  | .hbm, ⟨9, _⟩ => ⟨S2048x8192, .f32⟩
  | .hbm, ⟨10, _⟩ => ⟨S2048x8192, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S8192x3072, .fp8e4m3⟩
  | .hbm, ⟨16, _⟩ => ⟨S2048x8192, .fp8e5m2⟩
  | .hbm, ⟨17, _⟩ => ⟨S2048x8192, .fp8e5m2⟩
  | .hbm, ⟨18, _⟩ => ⟨S3072x8192, .bf16⟩
  | .hbm, ⟨19, _⟩ => ⟨S3072x8192, .bf16⟩
  | .hbm, ⟨20, _⟩ => ⟨S1x1, .f32⟩
  | .hbm, ⟨21, _⟩ => ⟨S1x1, .f32⟩
  | .local _ .vmem, ⟨0, _⟩ => ⟨S3072x2048, .fp8e4m3⟩
  | .local _ .vmem, ⟨1, _⟩ => ⟨S2048x3072, .fp8e5m2⟩
  | .local _ .vmem, ⟨2, _⟩ => ⟨S8192x3072, .bf16⟩
  | .local _ .vmem, ⟨3, _⟩ => ⟨S1x8192, .f32⟩
  | .local _ .vmem, ⟨4, _⟩ => ⟨S2048x8192, .f32⟩
  | .local _ .vmem, ⟨5, _⟩ => ⟨S2048x8192, .f32⟩
  | .local _ .vmem, ⟨6, _⟩ => ⟨S8192x3072, .fp8e4m3⟩
  | .local _ .vmem, ⟨7, _⟩ => ⟨S2048x8192, .fp8e5m2⟩
  | .local _ .vmem, ⟨8, _⟩ => ⟨S2048x8192, .fp8e5m2⟩
  | .local _ .vmem, ⟨9, _⟩ => ⟨S3072x8192, .bf16⟩
  | .local _ .vmem, ⟨10, _⟩ => ⟨S3072x8192, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg13_0 : Ref sig .tc := ⟨.vmem, 8, rfl⟩
abbrev cc0_stg14_0 : Ref sig .tc := ⟨.vmem, 9, rfl⟩
abbrev cc0_stg15_0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg16_0 : Ref sig .tc := ⟨.smem, 5, rfl⟩
abbrev cc0_stg17_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3072 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x3072 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x8192 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x8192 .fp8e5m2 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3072x8192 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3072x8192 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .smem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Prep.lean ====
abbrev S1x2048x3072 : Shape := ⟨3, ![1, 2048, 3072]⟩
abbrev S3072 : Shape := ⟨1, ![3072]⟩
abbrev S_ : Shape := ⟨0, ![]⟩
abbrev S2048x3072 : Shape := ⟨2, ![2048, 3072]⟩
abbrev S1x3072 : Shape := ⟨2, ![1, 3072]⟩
abbrev S1x1 : Shape := ⟨2, ![1, 1]⟩
abbrev S3072x2048 : Shape := ⟨2, ![3072, 2048]⟩
abbrev S256x3072 : Shape := ⟨2, ![256, 3072]⟩
abbrev S3072x256 : Shape := ⟨2, ![3072, 256]⟩
abbrev S8x128 : Shape := ⟨2, ![8, 128]⟩
abbrev S256 : Shape := ⟨1, ![256]⟩
abbrev S256x1 : Shape := ⟨2, ![256, 1]⟩
abbrev S32x8x3072 : Shape := ⟨3, ![32, 8, 3072]⟩
abbrev S8x3072 : Shape := ⟨2, ![8, 3072]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 15
  | .vmem => 13
  | .smem => 4
  | _ => 0

abbrev bufTy : (tb : Table) → Fin (tcTables nBuf tb) → BufTy
  | .hbm, ⟨0, _⟩ => ⟨S1x2048x3072, .bf16⟩
  | .hbm, ⟨1, _⟩ => ⟨S3072, .f32⟩
  | .hbm, ⟨2, _⟩ => ⟨S_, .f32⟩
  | .hbm, ⟨3, _⟩ => ⟨S1x2048x3072, .bf16⟩
  | .hbm, ⟨4, _⟩ => ⟨S_, .f32⟩
  | .hbm, ⟨5, _⟩ => ⟨S2048x3072, .bf16⟩
  | .hbm, ⟨6, _⟩ => ⟨S2048x3072, .bf16⟩
  | .hbm, ⟨7, _⟩ => ⟨S1x3072, .f32⟩
  | .hbm, ⟨8, _⟩ => ⟨S1x1, .f32⟩
  | .hbm, ⟨9, _⟩ => ⟨S1x1, .f32⟩
  | .hbm, ⟨10, _⟩ => ⟨S2048x3072, .fp8e4m3⟩
  | .hbm, ⟨11, _⟩ => ⟨S3072x2048, .fp8e4m3⟩
  | .hbm, ⟨12, _⟩ => ⟨S2048x3072, .fp8e5m2⟩
  | .hbm, ⟨13, _⟩ => ⟨S1x1, .f32⟩
  | .hbm, ⟨14, _⟩ => ⟨S1x1, .f32⟩
  | .local _ .vmem, ⟨0, _⟩ => ⟨S256x3072, .bf16⟩
  | .local _ .vmem, ⟨1, _⟩ => ⟨S256x3072, .bf16⟩
  | .local _ .vmem, ⟨2, _⟩ => ⟨S1x3072, .f32⟩
  | .local _ .vmem, ⟨3, _⟩ => ⟨S256x3072, .bf16⟩
  | .local _ .vmem, ⟨4, _⟩ => ⟨S256x3072, .bf16⟩
  | .local _ .vmem, ⟨5, _⟩ => ⟨S256x3072, .fp8e4m3⟩
  | .local _ .vmem, ⟨6, _⟩ => ⟨S256x3072, .fp8e4m3⟩
  | .local _ .vmem, ⟨7, _⟩ => ⟨S3072x256, .fp8e4m3⟩
  | .local _ .vmem, ⟨8, _⟩ => ⟨S3072x256, .fp8e4m3⟩
  | .local _ .vmem, ⟨9, _⟩ => ⟨S256x3072, .fp8e5m2⟩
  | .local _ .vmem, ⟨10, _⟩ => ⟨S256x3072, .fp8e5m2⟩
  | .local _ .vmem, ⟨11, _⟩ => ⟨S8x128, .f32⟩
  | .local _ .vmem, ⟨12, _⟩ => ⟨S8x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S1x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_stg1_0 : Ref sig .tc := ⟨.smem, 1, rfl⟩
abbrev cc0_stg8_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v157 : BitVec 1 := Scalar.cmpi .eq arg0 c7_i32
  let v158 : BitVec 32 := Scalar.extui v157
  let c0_i32_33 : BitVec 32 := 0#32
  let v159 : BitVec 1 := Scalar.cmpi .ne v158 c0_i32_33
  v159

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RPrepIdeal.lean ====
abbrev S1x2048x3072 : Shape := ⟨3, ![1, 2048, 3072]⟩
abbrev S3072 : Shape := ⟨1, ![3072]⟩
abbrev S_ : Shape := ⟨0, ![]⟩
abbrev S2048x3072 : Shape := ⟨2, ![2048, 3072]⟩
abbrev S1x3072 : Shape := ⟨2, ![1, 3072]⟩
abbrev S1x1 : Shape := ⟨2, ![1, 1]⟩
abbrev S3072x2048 : Shape := ⟨2, ![3072, 2048]⟩
abbrev S2048 : Shape := ⟨1, ![2048]⟩
abbrev S2048x1 : Shape := ⟨2, ![2048, 1]⟩
abbrev S1 : Shape := ⟨1, ![1]⟩
abbrev S1x1x1 : Shape := ⟨3, ![1, 1, 1]⟩

abbrev nBuf : Space → Nat
  | .hbm => 15
  | .vmem => 6
  | .smem => 4
  | _ => 0

abbrev bufTy : (tb : Table) → Fin (tcTables nBuf tb) → BufTy
  | .hbm, ⟨0, _⟩ => ⟨S1x2048x3072, .bf16⟩
  | .hbm, ⟨1, _⟩ => ⟨S3072, .f32⟩
  | .hbm, ⟨2, _⟩ => ⟨S_, .f32⟩
  | .hbm, ⟨3, _⟩ => ⟨S1x2048x3072, .bf16⟩
  | .hbm, ⟨4, _⟩ => ⟨S_, .f32⟩
  | .hbm, ⟨5, _⟩ => ⟨S2048x3072, .bf16⟩
  | .hbm, ⟨6, _⟩ => ⟨S1x3072, .f32⟩
  | .hbm, ⟨7, _⟩ => ⟨S2048x3072, .bf16⟩
  | .hbm, ⟨8, _⟩ => ⟨S1x1, .f32⟩
  | .hbm, ⟨9, _⟩ => ⟨S1x1, .f32⟩
  | .hbm, ⟨10, _⟩ => ⟨S2048x3072, .fp8e4m3⟩
  | .hbm, ⟨11, _⟩ => ⟨S3072x2048, .fp8e4m3⟩
  | .hbm, ⟨12, _⟩ => ⟨S2048x3072, .fp8e5m2⟩
  | .hbm, ⟨13, _⟩ => ⟨S1x1, .f32⟩
  | .hbm, ⟨14, _⟩ => ⟨S1x1, .f32⟩
  | .local _ .vmem, ⟨0, _⟩ => ⟨S2048x3072, .bf16⟩
  | .local _ .vmem, ⟨1, _⟩ => ⟨S1x3072, .f32⟩
  | .local _ .vmem, ⟨2, _⟩ => ⟨S2048x3072, .bf16⟩
  | .local _ .vmem, ⟨3, _⟩ => ⟨S2048x3072, .fp8e4m3⟩
  | .local _ .vmem, ⟨4, _⟩ => ⟨S3072x2048, .fp8e4m3⟩
  | .local _ .vmem, ⟨5, _⟩ => ⟨S2048x3072, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S1x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg0_0 : Ref sig .tc := ⟨.smem, 0, rfl⟩
abbrev cc0_stg1_0 : Ref sig .tc := ⟨.smem, 1, rfl⟩
abbrev cc0_stg8_0 : Ref sig .tc := ⟨.smem, 2, rfl⟩
abbrev cc0_stg9_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x3072 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.YRef.lean ====
module

public import proofs.«01_k».proof.Proof.Gen.RYIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The reference for `y`: its result array is one formula of its arguments -/

namespace Cert.RYIdeal.Value

open Cert.RYIdeal Cert.RYIdeal.Gen

variable (m : (ℓ : Loc nD τ sig) → Buf (Elt Ideal) ℓ)

/-- The reference's formula of its arguments: the product of the two operands, times the scale. -/
abbrev REF (s : FVec Ideal S1x1 .f32) (X : FVec Ideal S2048x8192 .bf16) (W : FVec Ideal S8192x3072 .fp8e4m3) :
    FVec Ideal S2048x3072 .bf16 := k0_pay1 X W (s (ix2 0 0))

/-- The only grid point reads every argument whole. -/
theorem idx : ∀ t : Fin cfg0.N, win0_0.index t = ![0, 0] ∧ win0_1.index t = ![0, 0]
    ∧ win0_2.index t = ![0, 0] ∧ win0_3.index t = ![0, 0] :=
  (by decide +kernel : ∀ t : Fin grid0.N, _)

theorem blk0 (c : Dev nD) (t : Fin cfg0.N) : iblk m c 0 t = m ((c : Thread nD τ).loc main_arg0) := by
  blk_ext! [iblk, V, idx t]

theorem blk1 (c : Dev nD) (t : Fin cfg0.N) : iblk m c 1 t = m ((c : Thread nD τ).loc main_arg1) := by
  blk_ext! [iblk, V, idx t]

theorem blk2 (c : Dev nD) (t : Fin cfg0.N) : iblk m c 2 t = m ((c : Thread nD τ).loc main_arg2) := by
  blk_ext! [iblk, V, idx t]

/-- What the body leaves for the result: its formula of the three arguments. -/
theorem out (c : Dev nD) (t : Fin cfg0.N) : outsAt0 m c t
    = REF (m ((c : Thread nD τ).loc main_arg0)) (m ((c : Thread nD τ).loc main_arg1))
        (m ((c : Thread nD τ).loc main_arg2)) := by
  unfold outsAt0
  frame_out
  rw [blk0, blk1, blk2]
  refine congr (congrArg₂ k0_pay1 (Memref.IsWhole.read_unread _ _) (Memref.IsWhole.read_unread _ _)) ?_
  exact (congrFun (Memref.IsWhole.read_unread _ _) _).trans (congrArg _ (funext fun a => by fin_cases a <;> rfl))

/-- The result array of the reference for `y`: the scaled product of the two whole operands. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_after_last 3 t0_0 (by decide +kernel) _ fun j => ?_
  blk_simp
  rw [after0_3, out]

end Cert.RYIdeal.Value

end
-- ==== Proof.Scal.lean ====
module

public import Idealize.ShloMosaic.Lib.Pipeline.ValueKit
public import Idealize.ShloMosaic.Lib.Pipeline.ReadBack

@[expose] public section

open Idealize.ShloMosaic

/-! # Scalars held in one-element arrays -/

namespace Cert.Scal

/-- A one-element array has one index. -/
theorem one_eq (i j : (⟨2, ![1, 1]⟩ : Shape).Idx) : i = j := by
  funext a
  have hi : ((i a : Fin _) : ℕ) < 1 := lt_of_lt_of_le (i a).isLt (by fin_cases a <;> exact le_refl 1)
  have hj : ((j a : Fin _) : ℕ) < 1 := lt_of_lt_of_le (j a).isLt (by fin_cases a <;> exact le_refl 1)
  exact Fin.ext (by omega)

/-- The first index of a one-element array. -/
theorem first_eq (h : 0 < (⟨2, ![1, 1]⟩ : Shape).numel) : (Shape.Idx.first h) = ix2 0 0 := one_eq _ _

/-- Reading a one-element array anywhere reads its one element. -/
theorem ld_one (X : Vec Ideal ⟨2, ![1, 1]⟩ .f32) (inb) (i) :
    View.ld X (Rect.unit (s := ⟨2, ![1, 1]⟩) ![0, 0] ![1, 1] inb) i = X (ix2 0 0) :=
  congrArg X (one_eq _ _)

end Cert.Scal
-- ==== Proof.YValue.lean ====
module

public import proofs.«01_k».proof.Proof.Gen.YIdeal.Frame
public import proofs.«01_k».proof.Proof.YRef
public import proofs.«01_k».proof.Proof.Scal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The kernel for `y`: its result array is the reference's formula of its arguments -/

namespace Cert.YIdeal.Value

open Cert.YIdeal Cert.YIdeal.Gen

variable (m : (ℓ : Loc nD τ sig) → Buf (Elt Ideal) ℓ)

/-- Where each window's block lies at each grid point. -/
theorem idx : ∀ t : Fin cfg0.N, win0_0.index t = ![0, 0]
    ∧ win0_1.index t = ![(grid0.coords t 0).val, 0]
    ∧ win0_2.index t = ![0, (grid0.coords t 1).val]
    ∧ win0_3.index t = ![(grid0.coords t 0).val, (grid0.coords t 1).val] :=
  (by decide +kernel : ∀ t : Fin grid0.N, _)

/-- Every grid point reads the one scale. -/
theorem scale (c : Dev nD) (t : Fin cfg0.N) :
    (iblk m c 0 t : Vec Ideal S1x1 .f32) (ix2 0 0) = m ((c : Thread nD τ).loc main_arg0) (ix2 0 0) := by
  unfold iblk
  rw [View.read_apply]
  exact congrArg (m ((c : Thread nD τ).loc main_arg0)) (Scal.one_eq _ _)

/-- What the body stores at one element of its block is the reference's formula at the element's place. -/
theorem point (c : Dev nD) (t : Fin cfg0.N) (y) :
    k0_pay1 (iblk m c 1 t) (iblk m c 2 t) ((iblk m c 0 t : Vec Ideal S1x1 .f32) (ix2 0 0)) y
    = Cert.RYIdeal.Value.REF (m ((c : Thread nD τ).loc main_arg0)) (m ((c : Thread nD τ).loc main_arg1))
        (m ((c : Thread nD τ).loc main_arg2)) (((cfg0.win 3).blk t).view.emb y) := by
  pointwise [k0_pay1, Cert.RYIdeal.Value.REF, Cert.RYIdeal.Gen.k0_pay1]
  refine congrArg₂ (· * ·) (Fin.sum_fin_congr fun k => congrArg₂ (· * ·) ?_ ?_) ?_
  · blk_ext [iblk, V, idx t]
  · blk_ext [iblk, V, idx t]
  · exact scale m c t

/-- The result array of the kernel for `y` is the reference's formula of the kernel's arguments. -/
theorem final (c : Dev nD) : (dats m 0 c).arrAt 3 (cfgs 0).N
    = Cert.RYIdeal.Value.REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  unfold outsAt0
  frame_out
  rw [Scal.ld_one]
  exact point m c t y

end Cert.YIdeal.Value

end
-- ==== Proof.DxCond.lean ====
/- The conditions of the branches of the idealized `dx` kernel, its staging buffers, and its scratch buffer as the invariant
   between the points holds it. The text is that of the generated modules of the same program before idealization. -/
module

public import proofs.«01_k».proof.Proof.Gen.DxIdeal.Frame
public import proofs.«01_k».proof.Proof.Gen.DxIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 11 (mod 12) — by arithmetic of the point. -/
theorem hcond0_0 : ∀ t : Fin cfg0.N, cond0_0 (grid0.coords t) ↔ t.val % 12 = 11 :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 12 = 11)

/-- The condition of the body's `scf.if` 1 (`k0_h2`), from the grid coordinates (the skeleton's scalar
    chain substituted). -/
abbrev cond0_1 (i : grid0.Coords) : Prop := k0_cond2 i = 1#1
/-- It holds at the points before point 12 — by arithmetic of the point. -/
theorem hcond0_1 : ∀ t : Fin cfg0.N, cond0_1 (grid0.coords t) ↔ t.val < 12 :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ t.val < 12)

/-- The condition of the body's `scf.if` 2 (`k0_h3`), from the grid coordinates (the skeleton's scalar
    chain substituted). -/
abbrev cond0_2 (i : grid0.Coords) : Prop := k0_cond3 i = 1#1
/-- It holds at the points from point 12 on — by arithmetic of the point. -/
theorem hcond0_2 : ∀ t : Fin cfg0.N, cond0_2 (grid0.coords t) ↔ 12 ≤ t.val :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [cond0_2, k0_cond3, e0, e1]
    word_cmp
   : ∀ t : Fin grid0.N, cond0_2 (grid0.coords t) ↔ 12 ≤ t.val)

/-- The condition of the body's `scf.if` 3 (`k0_h4`), from the grid coordinates (the skeleton's scalar
    chain substituted). -/
abbrev cond0_3 (i : grid0.Coords) : Prop := k0_cond4 i = 1#1
/-- It holds at the points from point 36 on — by arithmetic of the point. -/
theorem hcond0_3 : ∀ t : Fin cfg0.N, cond0_3 (grid0.coords t) ↔ 36 ≤ t.val :=
  (fun t => by
    have ht : t.val < 48 := Nat.lt_of_lt_of_eq t.isLt N_0
    have e0 : (grid0.coords t 0).val = t.val / 12 % 4 := Pipeline.Grid.coords_val t 0 (by decide) rfl
    have e1 : (grid0.coords t 1).val = t.val / 1 % 12 := Pipeline.Grid.coords_val t 1 (by decide) rfl
    simp only [cond0_3, k0_cond4, e0, e1]
    word_cmp
   : ∀ t : Fin grid0.N, cond0_3 (grid0.coords t) ↔ 36 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x8192 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8192 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8192 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x3072 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x3072 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x3072 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x3072 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S512x3072 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the sums' block holds after the last point of a row block, from what it held: the first row block starts it, the
    later ones add to it, and the last one folds its eight rows into row 0. -/
def acc (i : grid0.Coords) (x6 : Vec F S512x3072 .bf16) (s : Vec F S512x3072 .f32) (y : Vec F S8x3072 .f32) : Vec F S8x3072 .f32 :=
  if cond0_1 i then k0_pay7 x6 s
  else if cond0_3 i then VecWindow.put (k0_pay8 x6 s y) ![0, 0] S1x3072.size (k0_pay3 (k0_pay8 x6 s y))
  else k0_pay8 x6 s y

end Cert.DxIdeal.Gen

end
-- ==== Proof.DxRunA.lean ====
/- The body of the idealized `dx` kernel at a point that is not the last of its row block: it stores one tile into the scratch
   buffer. -/
module

public import proofs.«01_k».proof.Proof.DxCond
public import proofs.«01_k».proof.Proof.Scal
public import Idealize.ShloMosaic.Lib.VecWindow

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is not the last of its row block the body puts its tile into the scratch buffer and leaves the rest. -/
theorem run_A (c : Dev nD) (i : grid0.Coords) (arg2 : Memref sig .tc .smem S1x1 .f32) (harg2 : arg2.IsWhole) (arg3 : Memref sig .tc .smem S1x1 .f32) (harg3 : arg3.IsWhole) (arg4 : Memref sig .tc .vmem S512x8192 .fp8e5m2) (harg4 : arg4.IsWhole) (arg5 : Memref sig .tc .vmem S512x8192 .fp8e5m2) (harg5 : arg5.IsWhole) (arg6 : Memref sig .tc .vmem S256x8192 .fp8e4m3) (harg6 : arg6.IsWhole) (arg7 : Memref sig .tc .vmem S256x8192 .fp8e4m3) (harg7 : arg7.IsWhole) (arg8 : Memref sig .tc .vmem S512x3072 .bf16) (harg8 : arg8.IsWhole) (arg9 : Memref sig .tc .vmem S1x3072 .f32) (harg9 : arg9.IsWhole) (arg10 : Memref sig .tc .vmem S512x3072 .bf16) (harg10 : arg10.IsWhole) (arg11 : Memref sig .tc .vmem S1x512 .f32) (harg11 : arg11.IsWhole) (arg12 : Memref sig .tc .vmem S8x3072 .f32) (harg12 : arg12.IsWhole) (arg13 : Memref sig .tc .vmem S512x3072 .f32) (harg13 : arg13.IsWhole) (hc0 : ¬cond0_0 i)
    (x0 : Vec F S1x1 .f32) (x1 : Vec F S1x1 .f32) (x2 : Vec F S512x8192 .fp8e5m2) (x3 : Vec F S512x8192 .fp8e5m2) (x4 : Vec F S256x8192 .fp8e4m3) (x5 : Vec F S256x8192 .fp8e4m3) (x6 : Vec F S512x3072 .bf16) (x7 : Vec F S1x3072 .f32) (y8 : Vec F S512x3072 .bf16) (y9 : Vec F S1x512 .f32) (y10 : Vec F S8x3072 .f32) (xs : Vec F S512x3072 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare y10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare y10 ∗ owns (c : Thread nD τ) arg13 fullShare (VecWindow.put xs (k0_off1 i) ![512, 256] (k0_pay1 x2 x4 (x0 (ix2 0 0)) x3 x5 (x1 (ix2 0 0))))) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13) K := by
    intro E K
    simp only [cc0_dx_eq_skeleton]; unfold cc0_dx_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; isplitr; swap; · iexact HS0
    ipureintro
    rw [View.read_writes_cons_put _ _ _ _ _ rfl]
    rw [View.writes_nil, harg13.read_unread]
    unfold run_A.sl.r run_A.sl.r_1
    rw [View.readAt_full arg4.view, View.readAt_full arg5.view, View.readAt_full arg6.view, View.readAt_full arg7.view,
      View.readAt_full arg2.view, View.readAt_full arg3.view, harg2.read_unread, harg3.read_unread, harg4.read_unread,
      harg5.read_unread, harg6.read_unread, harg7.read_unread, Scal.first_eq]

end Cert.DxIdeal.Gen

end
-- ==== Proof.DxRunL.lean ====
/- The body of the idealized `dx` kernel at the last point of a row block: it stores its tile, and from the whole rows of the
   scratch buffer it makes the rows of `dx`, their scalar products and the sums' block. -/
module

public import proofs.«01_k».proof.Proof.DxCond
public import proofs.«01_k».proof.Proof.DxRunA
public import proofs.«01_k».proof.Proof.Scal
public import Idealize.ShloMosaic.Lib.VecWindow

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of a block replaced by the sum of the block's rows, the block read back from the buffer it was stored into. -/
theorem last_row (arg12 : Memref sig .tc .vmem S8x3072 .f32) (W : Vec F S8x3072 .f32) :
    VecWindow.put W ![0, 0] ![1, 3072] (k0_pay3 (arg12.view.readCov
        [⟨Rect.unit (s := S8x3072) ![0, 0] S8x3072.size inb_S8x3072_S8x3072_0_0, W⟩]
        (Rect.unit (s := S8x3072) ![0, 0] ![8, 3072] inb_S8x3072_S8x3072_0_0).toLoadRect))
      = VecWindow.put W ![0, 0] S1x3072.size (k0_pay3 W) :=
  congrArg (fun z : Vec F S8x3072 .f32 => VecWindow.put W ![0, 0] S1x3072.size (k0_pay3 z))
    (View.readCov_full arg12.view inb_S8x3072_S8x3072_0_0 inb_S8x3072_S8x3072_0_0 W [])

set_option maxHeartbeats 4000000 in
/-- At the last point of a row block the body puts its tile into the scratch buffer and makes the three results of it. -/
theorem run_L (c : Dev nD) (i : grid0.Coords) (arg2 : Memref sig .tc .smem S1x1 .f32) (harg2 : arg2.IsWhole) (arg3 : Memref sig .tc .smem S1x1 .f32) (harg3 : arg3.IsWhole) (arg4 : Memref sig .tc .vmem S512x8192 .fp8e5m2) (harg4 : arg4.IsWhole) (arg5 : Memref sig .tc .vmem S512x8192 .fp8e5m2) (harg5 : arg5.IsWhole) (arg6 : Memref sig .tc .vmem S256x8192 .fp8e4m3) (harg6 : arg6.IsWhole) (arg7 : Memref sig .tc .vmem S256x8192 .fp8e4m3) (harg7 : arg7.IsWhole) (arg8 : Memref sig .tc .vmem S512x3072 .bf16) (harg8 : arg8.IsWhole) (arg9 : Memref sig .tc .vmem S1x3072 .f32) (harg9 : arg9.IsWhole) (arg10 : Memref sig .tc .vmem S512x3072 .bf16) (harg10 : arg10.IsWhole) (arg11 : Memref sig .tc .vmem S1x512 .f32) (harg11 : arg11.IsWhole) (arg12 : Memref sig .tc .vmem S8x3072 .f32) (harg12 : arg12.IsWhole) (arg13 : Memref sig .tc .vmem S512x3072 .f32) (harg13 : arg13.IsWhole) (hc0 : cond0_0 i) (hc : cond0_1 i ∧ ¬cond0_2 i ∧ ¬cond0_3 i ∨ ¬cond0_1 i ∧ cond0_2 i ∧ ¬cond0_3 i ∨ ¬cond0_1 i ∧ cond0_2 i ∧ cond0_3 i)
    (x0 : Vec F S1x1 .f32) (x1 : Vec F S1x1 .f32) (x2 : Vec F S512x8192 .fp8e5m2) (x3 : Vec F S512x8192 .fp8e5m2) (x4 : Vec F S256x8192 .fp8e4m3) (x5 : Vec F S256x8192 .fp8e4m3) (x6 : Vec F S512x3072 .bf16) (x7 : Vec F S1x3072 .f32) (y8 : Vec F S512x3072 .bf16) (y9 : Vec F S1x512 .f32) (y10 : Vec F S8x3072 .f32) (xs : Vec F S512x3072 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare y10 ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay2 (k0_pay5 x6) (k0_pay6 x6) (k0_pay9 (VecWindow.put xs (k0_off1 i) ![512, 256] (k0_pay1 x2 x4 (x0 (ix2 0 0)) x3 x5 (x1 (ix2 0 0)))) x7) (k0_pay10 x6 (VecWindow.put xs (k0_off1 i) ![512, 256] (k0_pay1 x2 x4 (x0 (ix2 0 0)) x3 x5 (x1 (ix2 0 0)))) x7)) ∗ owns (c : Thread nD τ) arg11 fullShare (k0_pay11 x6 (VecWindow.put xs (k0_off1 i) ![512, 256] (k0_pay1 x2 x4 (x0 (ix2 0 0)) x3 x5 (x1 (ix2 0 0)))) x7) ∗ owns (c : Thread nD τ) arg12 fullShare (acc i x6 (VecWindow.put xs (k0_off1 i) ![512, 256] (k0_pay1 x2 x4 (x0 (ix2 0 0)) x3 x5 (x1 (ix2 0 0)))) y10) ∗ owns (c : Thread nD τ) arg13 fullShare (VecWindow.put xs (k0_off1 i) ![512, 256] (k0_pay1 x2 x4 (x0 (ix2 0 0)) x3 x5 (x1 (ix2 0 0))))) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13) K := by
    intro E K
    simp only [cc0_dx_eq_skeleton]; unfold cc0_dx_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hfs0
    rcases hc with ⟨hc1, hc2, hc3⟩ | ⟨hc1, hc2, hc3⟩ | ⟨hc1, hc2, hc3⟩ <;>
    sl_exec (disch := first | sl_exact hc0 | sl_exact hc1 | sl_exact hc2 | sl_exact hc3)
    all_goals
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; swap; · iexact H8
        ipureintro
        repeat (first | unfold run_L.sl.r_1 | unfold run_L.sl.r_2 | unfold run_L.sl.r_3 | unfold run_L.sl.r_4 | unfold run_L.sl.r_5 | unfold run_L.sl.r_6 | unfold run_L.sl.r_7 | unfold run_L.sl.r_8 | unfold run_L.sl.r_9 | unfold run_L.sl.r_10 | unfold run_L.sl.r_11 | unfold run_L.sl.r_12 | unfold run_L.sl.r_13 | unfold run_L.sl.r_14 | unfold run_L.sl.r_15 | unfold run_L.sl.r_16 | unfold run_L.sl.r_17 | unfold run_L.sl.r_18 | unfold run_L.sl.r_19 | unfold run_L.sl.r_20 | unfold run_L.sl.r_21 | unfold run_L.sl.r | unfold run_L.sl.H10_1 | unfold run_L.sl.v36 | unfold run_L.sl.v36_1 | unfold run_L.sl.v36_2 | unfold run_L.sl.v70 | unfold run_L.sl.HS0_1 | unfold run_L.sl.HS0_1_1 | unfold run_L.sl.HS0_1_2)
        repeat (first | rw [View.read_writes_full] | rw [View.readAt_full arg2.view] | rw [View.readAt_full arg3.view] | rw [View.readAt_full arg4.view] | rw [View.readAt_full arg5.view] | rw [View.readAt_full arg6.view] | rw [View.readAt_full arg7.view] | rw [View.readAt_full arg8.view] | rw [View.readAt_full arg9.view] | rw [View.readAt_full arg12.view] | rw [View.readAt_full arg13.view] | rw [View.read_writes_cons_put _ _ _ _ _ rfl] | rw [View.writes_nil] | rw [Scal.first_eq] | rw [harg2.read_unread] | rw [harg3.read_unread] | rw [harg4.read_unread] | rw [harg5.read_unread] | rw [harg6.read_unread] | rw [harg7.read_unread] | rw [harg8.read_unread] | rw [harg9.read_unread] | rw [harg10.read_unread] | rw [harg11.read_unread] | rw [harg12.read_unread] | rw [harg13.read_unread])
      isplitl [H9]
      · iexists _; isplitr; swap; · iexact H9
        ipureintro
        repeat (first | unfold run_L.sl.r_1 | unfold run_L.sl.r_2 | unfold run_L.sl.r_3 | unfold run_L.sl.r_4 | unfold run_L.sl.r_5 | unfold run_L.sl.r_6 | unfold run_L.sl.r_7 | unfold run_L.sl.r_8 | unfold run_L.sl.r_9 | unfold run_L.sl.r_10 | unfold run_L.sl.r_11 | unfold run_L.sl.r_12 | unfold run_L.sl.r_13 | unfold run_L.sl.r_14 | unfold run_L.sl.r_15 | unfold run_L.sl.r_16 | unfold run_L.sl.r_17 | unfold run_L.sl.r_18 | unfold run_L.sl.r_19 | unfold run_L.sl.r_20 | unfold run_L.sl.r_21 | unfold run_L.sl.r | unfold run_L.sl.H10_1 | unfold run_L.sl.v36 | unfold run_L.sl.v36_1 | unfold run_L.sl.v36_2 | unfold run_L.sl.v70 | unfold run_L.sl.HS0_1 | unfold run_L.sl.HS0_1_1 | unfold run_L.sl.HS0_1_2)
        repeat (first | rw [View.read_writes_full] | rw [View.readAt_full arg2.view] | rw [View.readAt_full arg3.view] | rw [View.readAt_full arg4.view] | rw [View.readAt_full arg5.view] | rw [View.readAt_full arg6.view] | rw [View.readAt_full arg7.view] | rw [View.readAt_full arg8.view] | rw [View.readAt_full arg9.view] | rw [View.readAt_full arg12.view] | rw [View.readAt_full arg13.view] | rw [View.read_writes_cons_put _ _ _ _ _ rfl] | rw [View.writes_nil] | rw [Scal.first_eq] | rw [harg2.read_unread] | rw [harg3.read_unread] | rw [harg4.read_unread] | rw [harg5.read_unread] | rw [harg6.read_unread] | rw [harg7.read_unread] | rw [harg8.read_unread] | rw [harg9.read_unread] | rw [harg10.read_unread] | rw [harg11.read_unread] | rw [harg12.read_unread] | rw [harg13.read_unread])
      isplitl [H10]
      · iexists _; isplitr; swap; · iexact H10
        ipureintro
        unfold acc
        first | rw [if_pos hc1] | rw [if_neg hc1, if_neg hc3] | rw [if_neg hc1, if_pos hc3]
        repeat (first | unfold run_L.sl.r_1 | unfold run_L.sl.r_2 | unfold run_L.sl.r_3 | unfold run_L.sl.r_4 | unfold run_L.sl.r_5 | unfold run_L.sl.r_6 | unfold run_L.sl.r_7 | unfold run_L.sl.r_8 | unfold run_L.sl.r_9 | unfold run_L.sl.r_10 | unfold run_L.sl.r_11 | unfold run_L.sl.r_12 | unfold run_L.sl.r_13 | unfold run_L.sl.r_14 | unfold run_L.sl.r_15 | unfold run_L.sl.r_16 | unfold run_L.sl.r_17 | unfold run_L.sl.r_18 | unfold run_L.sl.r_19 | unfold run_L.sl.r_20 | unfold run_L.sl.r_21 | unfold run_L.sl.r | unfold run_L.sl.H10_1 | unfold run_L.sl.v36 | unfold run_L.sl.v36_1 | unfold run_L.sl.v36_2 | unfold run_L.sl.v70 | unfold run_L.sl.HS0_1 | unfold run_L.sl.HS0_1_1 | unfold run_L.sl.HS0_1_2)
        repeat (first | rw [View.read_writes_full] | rw [View.readAt_full arg2.view] | rw [View.readAt_full arg3.view] | rw [View.readAt_full arg4.view] | rw [View.readAt_full arg5.view] | rw [View.readAt_full arg6.view] | rw [View.readAt_full arg7.view] | rw [View.readAt_full arg8.view] | rw [View.readAt_full arg9.view] | rw [View.readAt_full arg12.view] | rw [View.readAt_full arg13.view] | rw [View.read_writes_cons_put _ _ _ _ _ rfl] | rw [View.writes_nil] | rw [Scal.first_eq] | rw [harg2.read_unread] | rw [harg3.read_unread] | rw [harg4.read_unread] | rw [harg5.read_unread] | rw [harg6.read_unread] | rw [harg7.read_unread] | rw [harg8.read_unread] | rw [harg9.read_unread] | rw [harg10.read_unread] | rw [harg11.read_unread] | rw [harg12.read_unread] | rw [harg13.read_unread])
        all_goals exact last_row arg12 _
      iexists _; isplitr; swap; · iexact HS0
      ipureintro
      repeat (first | unfold run_L.sl.r_1 | unfold run_L.sl.r_2 | unfold run_L.sl.r_3 | unfold run_L.sl.r_4 | unfold run_L.sl.r_5 | unfold run_L.sl.r_6 | unfold run_L.sl.r_7 | unfold run_L.sl.r_8 | unfold run_L.sl.r_9 | unfold run_L.sl.r_10 | unfold run_L.sl.r_11 | unfold run_L.sl.r_12 | unfold run_L.sl.r_13 | unfold run_L.sl.r_14 | unfold run_L.sl.r_15 | unfold run_L.sl.r_16 | unfold run_L.sl.r_17 | unfold run_L.sl.r_18 | unfold run_L.sl.r_19 | unfold run_L.sl.r_20 | unfold run_L.sl.r_21 | unfold run_L.sl.r | unfold run_L.sl.H10_1 | unfold run_L.sl.v36 | unfold run_L.sl.v36_1 | unfold run_L.sl.v36_2 | unfold run_L.sl.v70 | unfold run_L.sl.HS0_1 | unfold run_L.sl.HS0_1_1 | unfold run_L.sl.HS0_1_2)
      repeat (first | rw [View.read_writes_full] | rw [View.readAt_full arg2.view] | rw [View.readAt_full arg3.view] | rw [View.readAt_full arg4.view] | rw [View.readAt_full arg5.view] | rw [View.readAt_full arg6.view] | rw [View.readAt_full arg7.view] | rw [View.readAt_full arg8.view] | rw [View.readAt_full arg9.view] | rw [View.readAt_full arg12.view] | rw [View.readAt_full arg13.view] | rw [View.read_writes_cons_put _ _ _ _ _ rfl] | rw [View.writes_nil] | rw [Scal.first_eq] | rw [harg2.read_unread] | rw [harg3.read_unread] | rw [harg4.read_unread] | rw [harg5.read_unread] | rw [harg6.read_unread] | rw [harg7.read_unread] | rw [harg8.read_unread] | rw [harg9.read_unread] | rw [harg10.read_unread] | rw [harg11.read_unread] | rw [harg12.read_unread] | rw [harg13.read_unread])

end Cert.DxIdeal.Gen

end
-- ==== Proof.DxState.lean ====
/- What the idealized `dx` kernel holds from point to point: the tiles in its scratch buffer, the sums' block over the row blocks,
   and what it leaves in each result's block. The proof data of its pipeline. -/
module

public import proofs.«01_k».proof.Proof.DxCond
public import proofs.«01_k».proof.Proof.Gen.DxIdeal.Points
public import Idealize.ShloMosaic.Lib.VecWindow

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile of `dxn` that the body makes at a point, from the input blocks there. -/
def tile (c : Dev nD) (t : Fin cfg0.N) : Vec F S512x256 .f32 :=
  k0_pay1 (iblk m c 2 t) (iblk m c 4 t) ((iblk m c 0 t : Vec F S1x1 .f32) (ix2 0 0)) (iblk m c 3 t) (iblk m c 5 t)
    ((iblk m c 1 t : Vec F S1x1 .f32) (ix2 0 0))

/-- Column `j` of the row block of a point lies in the tile of this point. -/
def at_ (t : Fin cfg0.N) (j : S512x3072.Idx) : Fin cfg0.N :=
  ⟨12 * (t.val / 12) + (j 1).val / 256, by
    have ht : t.val < 48 := lt_of_lt_of_eq t.isLt N_0
    have hj : (j 1).val < 3072 := (j 1).isLt
    show _ < grid0.N
    rw [N_0]; omega⟩

/-- The index of an element within its tile. -/
def in_ (j : S512x3072.Idx) : S512x256.Idx := ix2 (⟨(j 0).val, (j 0).isLt⟩ : Fin 512) (⟨(j 1).val % 256, Nat.mod_lt _ (by decide)⟩ : Fin 256)

/-- The whole rows of `dxn` of the row block of a point. -/
def dxn (c : Dev nD) (t : Fin cfg0.N) : Vec F S512x3072 .f32 := fun j => tile m c (at_ t j) (in_ j)

/-- What the scratch buffer holds before a point: the tiles of the earlier points of the same row block. -/
def Inv (c : Dev nD) (k : ℕ) (s : Vec F S512x3072 .f32) : Prop :=
  ∀ (t : Fin cfg0.N) (j : S512x3072.Idx), t.val < k → t.val / 12 = k / 12 → (j 1).val / 256 = t.val % 12 → s j = tile m c t (in_ j)

/-- A tile put into the scratch buffer, read at an element: the tile's where the element's column lies in it. -/
theorem put_tile (t : Fin cfg0.N) (s : Vec F S512x3072 .f32) (w : Vec F S512x256 .f32) (j : S512x3072.Idx) :
    VecWindow.put s (k0_off1 (grid0.coords t)) ![512, 256] w j = if (j 1).val / 256 = t.val % 12 then w (in_ j) else s j := by
  have e1 : (grid0.coords t 1).val = t.val / 1 % 12 := Pipeline.Grid.coords_val t 1 (by decide) rfl
  have e0 : k0_off1 (grid0.coords t) = ![0, 256 * (t.val % 12)] := by
    have hv : t.val / 1 % 12 < 12 := Nat.mod_lt _ (by decide)
    unfold k0_off1
    dsimp only
    rw [e1]
    funext a
    match a with
    | ⟨0, _⟩ => rfl
    | ⟨1, _⟩ =>
      show (Scalar.indexCast (Scalar.muli (BitVec.ofNat 32 (t.val / 1 % 12)) 256#32)).toNat = 256 * (t.val % 12)
      rw [show t.val % 12 = t.val / 1 % 12 by rw [Nat.div_one]]
      exact (by decide +kernel : ∀ k < 12, (Scalar.indexCast (Scalar.muli (BitVec.ofNat 32 k) 256#32)).toNat = 256 * k) _ hv
  rw [e0]
  have hj : (j 1).val < 3072 := (j 1).isLt
  have hj0 : (j 0).val < 512 := (j 0).isLt
  have ht : t.val % 12 < 12 := Nat.mod_lt _ (by decide)
  unfold VecWindow.put
  by_cases hc : (j 1).val / 256 = t.val % 12
  · rw [if_pos hc, dif_pos (Fin.forall_fin_two.mpr ⟨⟨Nat.zero_le _, show (j 0).val < 0 + 512 by omega⟩,
      show 256 * (t.val % 12) ≤ (j 1).val by omega, show (j 1).val < 256 * (t.val % 12) + 256 by omega⟩)]
    refine congrArg w (funext fun a => Fin.ext ?_)
    match a with
    | ⟨0, _⟩ => rfl
    | ⟨1, _⟩ => show (j 1).val - 256 * (t.val % 12) = (j 1).val % 256; omega
  · rw [if_neg hc, dif_neg fun h => hc ?_]
    have h1 := h 1
    have a : 256 * (t.val % 12) ≤ (j 1).val := h1.1
    have b : (j 1).val < 256 * (t.val % 12) + 256 := h1.2
    omega

/-- At the last point of a row block the scratch buffer is whole once the tile is put. -/
theorem inv_full {c : Dev nD} {t : Fin cfg0.N} {s : Vec F S512x3072 .f32} (h : Inv m c t.val s) (ht : t.val % 12 = 11) :
    VecWindow.put s (k0_off1 (grid0.coords t)) ![512, 256] (tile m c t) = dxn m c t := by
  funext j
  have hj : (j 1).val < 3072 := (j 1).isLt
  rw [put_tile]
  unfold dxn
  split
  · next e => rw [show at_ t j = t from Fin.ext (show 12 * (t.val / 12) + (j 1).val / 256 = t.val by omega)]
  · next e =>
      exact h (at_ t j) j (show 12 * (t.val / 12) + (j 1).val / 256 < t.val by omega)
        (show (12 * (t.val / 12) + (j 1).val / 256) / 12 = t.val / 12 by omega)
        (show (j 1).val / 256 = (12 * (t.val / 12) + (j 1).val / 256) % 12 by omega)

/-- One more tile is in place after a point. -/
theorem inv_step {c : Dev nD} {t : Fin cfg0.N} {s : Vec F S512x3072 .f32} (h : Inv m c t.val s) :
    Inv m c (t.val + 1) (VecWindow.put s (k0_off1 (grid0.coords t)) ![512, 256] (tile m c t)) := by
  intro t' j h1 h2 h3
  rw [put_tile]
  split
  · next e => rw [show t' = t from Fin.ext (by omega)]
  · next e =>
      have : t'.val ≠ t.val := fun hh => e (by rw [← hh]; exact h3)
      exact h t' j (by omega) (by omega) h3

/-- The last point of row block `n`. -/
def lastPt (n : ℕ) : Fin cfg0.N := ⟨(12 * n + 11) % 48, by show _ < grid0.N; rw [N_0]; exact Nat.mod_lt _ (by decide)⟩

/-- The sums' block after row block `n`. -/
def sums (c : Dev nD) : ℕ → Vec F S8x3072 .f32
  | 0 => k0_pay7 (iblk m c 6 (lastPt 0)) (dxn m c (lastPt 0))
  | n + 1 => acc (grid0.coords (lastPt (n + 1))) (iblk m c 6 (lastPt (n + 1))) (dxn m c (lastPt (n + 1))) (sums c n)

/-- The sums' block after the last point of a row block, from what it held after the row block before. -/
theorem sums_step (c : Dev nD) (t : Fin cfg0.N) (ht : t.val % 12 = 11) (y : Vec F S8x3072 .f32)
    (hy : 12 ≤ t.val → y = sums m c (t.val / 12 - 1)) :
    acc (grid0.coords t) (iblk m c 6 t) (dxn m c t) y = sums m c ((t.val + 1) / 12 - 1) := by
  have hN : t.val < 48 := lt_of_lt_of_eq t.isLt N_0
  have e : t = lastPt (t.val / 12) := Fin.ext (show t.val = (12 * (t.val / 12) + 11) % 48 by omega)
  rw [show (t.val + 1) / 12 - 1 = t.val / 12 by omega]
  rcases hn : t.val / 12 with _ | n
  · rw [hn] at e
    unfold acc
    rw [if_pos ((hcond0_1 t).mpr (by omega)), e]
    rfl
  · rw [hn] at e
    rw [hy (by omega), hn, e]
    rfl

/-- The proof data of the pipeline: each input's buffer keeps its block; the results' buffers hold at the points where they are written
    back what is made of the whole rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (k0_pay5 (iblk m c 6 t)) (k0_pay6 (iblk m c 6 t)) (k0_pay9 (dxn m c t) (iblk m c 7 t)) (k0_pay10 (iblk m c 6 t) (dxn m c t) (iblk m c 7 t))
    | ⟨9, _⟩ => k0_pay11 (iblk m c 6 t) (dxn m c t) (iblk m c 7 t)
    | ⟨10, _⟩ => sums m c ((t.val + 1) / 12 - 1)
  Φ k := iprop((∃ s, ⌜Inv m c k.val s⌝ ∗ owns (c : Thread nD τ) scM0_0 fullShare s) ∗ (∃ r, prngReg c r))
  q _ := fullShare
  owed _ := 0

/-- The proof data's arrays are the contents at the region's entry. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay2 (k0_pay5 (iblk m c 6 t)) (k0_pay6 (iblk m c 6 t))
    (k0_pay9 (dxn m c t) (iblk m c 7 t)) (k0_pay10 (iblk m c 6 t) (dxn m c t) (iblk m c 7 t)) := by dsimp only [dats]
theorem after0_9 (c : Dev nD) (t : Fin cfg0.N) : (dats m 0 c).after 9 t = k0_pay11 (iblk m c 6 t) (dxn m c t) (iblk m c 7 t) := by dsimp only [dats]
theorem after0_10 (c : Dev nD) (t : Fin cfg0.N) : (dats m 0 c).after 10 t = sums m c ((t.val + 1) / 12 - 1) := by dsimp only [dats]

/-! Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The results' windows. -/
def fgt : Fin 11 → Bool := fun w => w.val == 8 || w.val == 9 || w.val == 10

/-- A result's buffer holds what the proof data say: the sums' from the first complete row block on, the others' at the last point of a
    row block. -/
def Rl (c : Dev nD) (w : Fin cfg0.W) (t : Fin cfg0.N) (X : (cfg0.win w).block.Idx → Elt F (cfg0.win w).elt) : Prop :=
  (if w.val = 10 then 11 ≤ t.val else t.val % 12 = 11) → X = (dats m 0 c).after w t

end Cert.DxIdeal.Gen

end
-- ==== Proof.DxFrame.lean ====
/- The frame of the idealized `dx` kernel, proved by hand: its body keeps the scratch buffer's tiles from point to point, so that the
   proof data say what each result's block holds where it is written back. The run, and the arguments unchanged. -/
module

public import proofs.«01_k».proof.Proof.DxRunA
public import proofs.«01_k».proof.Proof.DxRunL
public import proofs.«01_k».proof.Proof.DxState
public import Idealize.ShloMosaic.Lib.VecWindow
public import Idealize.ShloMosaic.Lib.Claim
public import Idealize.ShloMosaic.Lib.Pipeline.DatRel
public import Idealize.ShloMosaic.Lib.Pipeline.ArrRel

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel fgt (Rl m c)).Finds 8 t Y⌝ ∗ owns (c : Thread nD τ) (ms0_8 t) fullShare Y)
    ∗ (∃ Y, ⌜((dats m 0 c).toRRel fgt (Rl m c)).Finds 9 t Y⌝ ∗ owns (c : Thread nD τ) (ms0_9 t) fullShare Y)
    ∗ (∃ Y, ⌜((dats m 0 c).toRRel fgt (Rl m c)).Finds 10 t Y⌝ ∗ owns (c : Thread nD τ) (ms0_10 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X))

/-- The sums' buffer is found at what the proof data say of the row blocks before. -/
theorem found (c : Dev nD) (t : Fin cfg0.N) (Y : Vec F S8x3072 .f32) (h : ((dats m 0 c).toRRel fgt (Rl m c)).Finds 10 t Y) (ht : 12 ≤ t.val) :
    Y = sums m c (t.val / 12 - 1) := by
  have hN : t.val < 48 := lt_of_lt_of_eq t.isLt N_0
  rcases (Pipeline.RDat.finds_of_pos ((dats m 0 c).toRRel fgt (Rl m c)) (w := 10) (t := t) rfl (by omega) Y).mp h with h | h
  · have := (flush0_10 _).mp h
    have h' : (t.val - 1) % 48 = 47 := this
    omega
  · have := Dat.toRRel_leaves (dats m 0 c) (w := 10) rfl h
    refine (this (show 11 ≤ t.val - 1 by omega)).trans ((after0_10 m c _).trans ?_)
    show sums m c ((t.val - 1 + 1) / 12 - 1) = _
    rw [Nat.sub_add_cancel (by omega)]

/-- The proof data's invariant at a number of points. -/
theorem phi_eq (c : Dev nD) (k : Fin (cfg0.N + 1)) : (dats m 0 c).Φ k
    = iprop((∃ s, ⌜Inv m c k.val s⌝ ∗ owns (c : Thread nD τ) scM0_0 fullShare s) ∗ (∃ r, prngReg c r)) := by dsimp only [dats]

/-- The branches taken at the last point of a row block: the first row block's, a middle one's or the last one's. -/
theorem hcase (t : Fin cfg0.N) (h0 : t.val % 12 = 11) :
    cond0_1 (grid0.coords t) ∧ ¬cond0_2 (grid0.coords t) ∧ ¬cond0_3 (grid0.coords t)
      ∨ ¬cond0_1 (grid0.coords t) ∧ cond0_2 (grid0.coords t) ∧ ¬cond0_3 (grid0.coords t)
      ∨ ¬cond0_1 (grid0.coords t) ∧ cond0_2 (grid0.coords t) ∧ cond0_3 (grid0.coords t) := by
  rw [hcond0_1, hcond0_2, hcond0_3]
  omega

set_option maxHeartbeats 4800000 in
/-- The body at any point: one of the two triples applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [phi_eq, phi_eq, show t.castSucc.val = t.val from rfl, show t.succ.val = t.val + 1 from rfl]
  have hN : t.val < 48 := lt_of_lt_of_eq t.isLt (show cfg0.N = 48 from N_0)
  iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%y8, %h8, H8⟩, ⟨%y9, %h9, H9⟩, ⟨%y10, %h10, H10⟩⟩
  by_cases h0 : t.val % 12 = 11
  · iapply ((run_L c (grid0.coords t) _ _ _ _ _ _ _ _ _ _ _ _ _ _ _ _ _ _ _ _ _ _ _ _ ((hcond0_0 t).mpr h0) (hcase t h0) (iblk m c 0 t) (iblk m c 1 t) (iblk m c 2 t) (iblk m c 3 t) (iblk m c 4 t) (iblk m c 5 t) (iblk m c 6 t) (iblk m c 7 t) y8 y9 y10 s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    iintro ⟨H0, H1, H2, H3, H4, H5, H6, H7, H8, H9, H10, HS0⟩
    isplitl [HS0 Hg]
    · isplitl [HS0]
      · iexists _; isplitr; · ipureintro; exact inv_step m hs
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; · ipureintro; exact fun _ => ((congrArg (fun z => k0_pay2 (k0_pay5 (iblk m c 6 t)) (k0_pay6 (iblk m c 6 t)) (k0_pay9 z (iblk m c 7 t)) (k0_pay10 (iblk m c 6 t) z (iblk m c 7 t))) (inv_full m hs h0)).trans (after0_8 m c t).symm)
      iexact H8
    isplitl [H9]
    · iexists _; isplitr; · ipureintro; exact fun _ => ((congrArg (fun z => k0_pay11 (iblk m c 6 t) z (iblk m c 7 t)) (inv_full m hs h0)).trans (after0_9 m c t).symm)
      iexact H9
    iexists _; isplitr; · ipureintro; exact fun _ => (((congrArg (fun z => acc (grid0.coords t) (iblk m c 6 t) z y10) (inv_full m hs h0)).trans (sums_step m c t h0 y10 (found m c t y10 h10))).trans (after0_10 m c t).symm)
    iexact H10
  · iapply ((run_A c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) y8 y9 y10 s) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    iintro ⟨H0, H1, H2, H3, H4, H5, H6, H7, H8, H9, H10, HS0⟩
    isplitl [HS0 Hg]
    · isplitl [HS0]
      · iexists _; isplitr; · ipureintro; exact inv_step m hs
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iexists y8; isplitr; · ipureintro; exact fun h => absurd h h0
      iexact H8
    isplitl [H9]
    · iexists y9; isplitr; · ipureintro; exact fun h => absurd h h0
      iexact H9
    iexists y10; isplitr; · ipureintro; exact fun (h : 11 ≤ t.val) => ((found m c t y10 h10 (by omega)).trans
        (congrArg (sums m c) (show t.val / 12 - 1 = (t.val + 1) / 12 - 1 by omega))).trans (after0_10 m c t).symm
    iexact H10

/-- The body table's row at the point's slots is the body. -/
theorem defs₀_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-- The proof data as relational data. -/
abbrev rdats (c : Dev nD) : Pipeline.RDat τ (Elt F) Unit ℕ (UR sig nD τ) ℕ cfg0 c := (dats m 0 c).toRRel fgt (Rl m c)

theorem phi_in (c : Dev nD) : (Pipeline.ΦA spec0 c : sProp 𝕄) ⊢ (dats m 0 c).Φ 0 := by
  rw [phi_eq, PhiA0_eq]
  iintro ⟨⟨%d, H⟩, Hg⟩
  isplitl [H]
  · iexists d; isplitr; · ipureintro; exact fun t j h => absurd h (Nat.not_lt_zero _)
    iexact H
  iexact Hg

theorem phi_out (c : Dev nD) : (dats m 0 c).Φ (Fin.last cfg0.N) ⊢ (Pipeline.ΦA spec0 c : sProp 𝕄) := by
  rw [phi_eq, PhiA0_eq]
  iintro ⟨⟨%d, %h, H⟩, Hg⟩
  isplitl [H]
  · iexists d; iexact H
  iexact Hg

set_option backward.isDefEq.respectTransparency.types false in
/-- THE LAUNCH, with every semaphore counter at zero at every final state. -/
theorem run_main_quiescent : θ_run defs (onTc (τ := τ) (main (F := F))) (s₀ m ρ)
    (fun r => (Pipeline.RDat.FramePost (cfgs 0) (rdats m) (V m)) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hin := phi_in m) (hout := phi_out m)

/-- Every array the pipeline writes ends at what the proof data say. -/
theorem arr_final {r : PUnit × MemSt nD τ sig (Elt F)} (h : Pipeline.RDat.FramePost (cfgs 0) (rdats m) (V m) r) (c : Dev nD) (w : Fin cfg0.W)
    (hw : fgt w = true) : r.2.mem ((cfg0.spec w).arr.view.loc (c.tc : Thread nD τ)) = (dats m 0 c).arrAt w cfg0.N := by
  obtain ⟨X, hX, hA⟩ := ((h c).1 w).exists_exact
  refine (hA (dats m 0 c).after fun u _ hf => ?_)
  have hl := Dat.toRRel_leaves (dats m 0 c) hw (hX u u.isLt hf)
  refine (hl ?_).symm
  match w, hw, hf with
  | ⟨8, _⟩, _, hf => rw [if_neg (show ¬(8 : ℕ) = 10 by decide)]; exact (flush0_8 u).mp hf
  | ⟨9, _⟩, _, hf => rw [if_neg (show ¬(9 : ℕ) = 10 by decide)]; exact (flush0_9 u).mp hf
  | ⟨10, _⟩, _, hf =>
    rw [if_pos rfl]
    have := (flush0_10 u).mp hf
    omega

/-- The argument arrays end unchanged, from the run of relational proof data. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 2 rfl).trans ((hA c 2).trans (V_main_arg4 m c)),
      (Pipeline.RDat.FramePost.arr_in h c 3 rfl).trans ((hA c 3).trans (V_main_arg5 m c)),
      (Pipeline.RDat.FramePost.arr_in h c 4 rfl).trans ((hA c 4).trans (V_main_arg6 m c)),
      (Pipeline.RDat.FramePost.arr_in h c 5 rfl).trans ((hA c 5).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of_rel m ρ (rdats m) (A_eq m) ((θ_run defs _ _).mono (fun _ h => h.1) (run_main_quiescent m ρ))

/-- THE FRAME: `Cert.quiescent_DxIdeal`'s statement (Defs.lean) at any `F` — Proof.lean cites it at `Bits`:
    `theorem Cert.Proof.claim : Cert.Claim := ⟨Cert.DxIdeal.Gen.facts, fun m ρ _ => Cert.DxIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.DxIdeal.Gen

end
-- ==== Proof.DxBits.lean ====
/- The frame of the `dx` kernel at bits: its idealization is the same text, and its frame is proved at any float semantics, so that
   the one proof serves both. -/
module

public import proofs.«01_k».proof.Proof.Gen.Dx
public import proofs.«01_k».proof.Proof.DxFrame
public import Idealize.ShloMosaic.Lib.Tactic

@[expose] public section

set_option maxRecDepth 16384

noncomputable section

open Idealize.ShloMosaic Idealize.ShloMosaic.TcCoe Idealize.SL.Sem

namespace Cert.Dx.Gen

open Cert.Dx

variable {F : FTy → Type} [FloatOps F] (m : (ℓ : Loc nD τ sig) → Buf (Elt F) ℓ) (ρ : Dev nD → PrngReg)

/-- The run, the arguments unchanged, and the semaphores back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Eq.mp (by sl_kernel_rfl) (Cert.DxIdeal.Gen.frame (F := F) m ρ)

end Cert.Dx.Gen

end
-- ==== Proof.Backward.lean ====
module

public import Idealize.ShloMosaic.Lib.Pipeline.ValueKit

@[expose] public section

noncomputable section

open Idealize.ShloMosaic

/-! # The backward pass through the gated activation, element by element

The arrays have 2048 tokens, 3072 features and any number `n` of hidden columns: the reference has all 8192 of them, one
grid point of the kernel has 256. -/

namespace Cert.Backward

/-- An array of extended reals with two axes. -/
abbrev Arr (a b : ℕ) := (⟨2, ![a, b]⟩ : Shape).Idx → EReal

/-- A value held within the range of the format with 4 exponent bits. -/
def q4 (v : EReal) : EReal :=
  min (Ideal.ofBits FTy.f32 1138753536#32) (max (Ideal.ofBits FTy.f32 3286237184#32) v)

/-- A value held within the range of the format with 5 exponent bits. -/
def q5 (v : EReal) : EReal :=
  min (Ideal.ofBits FTy.f32 1197473792#32) (max (Ideal.ofBits FTy.f32 3344957440#32) v)

/-- The codes of the down projection whose row `f` is multiplied by the scale of hidden column `f`. -/
def w2 {n : ℕ} (s : EReal) (H : Arr 1 n) (W : Arr n 3072) : Arr n 3072 := fun i =>
  q4 (Ideal.div (W i * H (ix2 0 (i 0))) s)

/-- The gradient of the hidden activation. -/
def dh {r n : ℕ} (s ds : EReal) (H : Arr 1 n) (Y : Arr r 3072) (B : Arr n 3072) : Arr r n := fun i =>
  (∑ k : Fin 3072, Y (ix2 (i 0) k) * B (ix2 (i 1) k)) * (ds * s) * Ideal.div 1 (H (ix2 0 (i 1)))

/-- The gradient of the gate. -/
def dg {r n : ℕ} (D G U : Arr r n) : Arr r n := fun i =>
  D i * U i * Ideal.logistic (G i) * (1 + G i * (1 - Ideal.logistic (G i)))

/-- The gradient of the up projection's output. -/
def du {r n : ℕ} (D G : Arr r n) : Arr r n := fun i => D i * G i * Ideal.logistic (G i)

/-- The codes of a gradient under a scale. -/
def codes {r n : ℕ} (s : EReal) (A : Arr r n) : Arr r n := fun i => q5 (Ideal.div (A i) s)

/-- The gradient of a weight: the transposed input codes times gradient codes, times both scales. -/
def dw {n : ℕ} (X : Arr 3072 2048) (C : Arr 2048 n) (s : EReal) : Arr 3072 n := fun i =>
  (∑ k : Fin 2048, X (ix2 (i 0) k) * C (ix2 k (i 1))) * s

/-- The largest size of an array's elements. -/
def amax {r n : ℕ} (A : Arr r n) : EReal :=
  Finset.fold max (Ideal.ofBits FTy.f32 4286578688#32)
    (fun x : Fin r × Fin n => FloatOps.absf (F := Ideal) (φ := .f32) (A (ix2 x.1 x.2))) Finset.univ

end Cert.Backward

end
-- ==== Proof.Local.lean ====
module

public import proofs.«01_k».proof.Proof.Backward

@[expose] public section

open Idealize.ShloMosaic

/-! # The backward formulas on a block of hidden columns are the whole formulas read on that block -/

namespace Cert.Backward

variable {n N r : ℕ}

/-- An array read at the columns `f`. -/
def cols (f : Fin n → Fin N) (A : Arr r N) : Arr r n := fun i => A (ix2 (i 0) (f (i 1)))

/-- An array read at the rows `f`. -/
def rows (f : Fin n → Fin N) (A : Arr N r) : Arr n r := fun i => A (ix2 (f (i 0)) (i 1))

theorem w2_rows (f : Fin n → Fin N) (s : EReal) (H : Arr 1 N) (W : Arr N 3072) :
    w2 s (cols f H) (rows f W) = rows f (w2 s H W) := by
  funext i
  exact congrArg (fun z => q4 (Ideal.div (W (ix2 (f (i 0)) (i 1)) * z) s)) (congrArg H rfl)

theorem dh_cols (f : Fin n → Fin N) (s ds : EReal) (H : Arr 1 N) (Y : Arr r 3072) (B : Arr N 3072) :
    dh s ds (cols f H) Y (rows f B) = cols f (dh s ds H Y B) := rfl

theorem dg_cols (f : Fin n → Fin N) (D G U : Arr r N) : dg (cols f D) (cols f G) (cols f U) = cols f (dg D G U) := rfl

theorem du_cols (f : Fin n → Fin N) (D G : Arr r N) : du (cols f D) (cols f G) = cols f (du D G) := rfl

theorem codes_cols (f : Fin n → Fin N) (s : EReal) (A : Arr r N) : codes s (cols f A) = cols f (codes s A) := rfl

theorem dw_cols (f : Fin n → Fin N) (X : Arr 3072 2048) (C : Arr 2048 N) (s : EReal) :
    dw X (cols f C) s = cols f (dw X C s) := rfl

end Cert.Backward

end
-- ==== Proof.NormBack.lean ====
module

public import proofs.«01_k».proof.Proof.Local

@[expose] public section

noncomputable section

open Idealize.ShloMosaic

/-! # The backward pass through the normalisation, element by element

The arrays have 3072 features and any number `r` of tokens: the reference has all 2048 of them, a block of the kernel's
rows has 512. -/

namespace Cert.NormBack

open Backward (Arr)

variable {r n : ℕ}

/-- The number of features. -/
def width : EReal := Ideal.ofBits FTy.f32 1161822208#32

/-- The gradient of the normalised input: two products with the weights' codes, each times its scale. -/
def dxn (a b : EReal) (G U : Arr r 8192) (B C : Arr n 8192) : Arr r n := fun i =>
  (∑ k : Fin 8192, G (ix2 (i 0) k) * B (ix2 (i 1) k)) * a + (∑ k : Fin 8192, U (ix2 (i 0) k) * C (ix2 (i 1) k)) * b

/-- One over the root of a row's mean square. -/
def rs (X : Arr r 3072) (i : Fin r) : EReal :=
  Ideal.div 1 (Ideal.sqrt (Ideal.div (∑ k : Fin 3072, X (ix2 i k) * X (ix2 i k)) width + Ideal.ofBits FTy.f32 925353388#32))

/-- The normalised input. -/
def xhat (X : Arr r 3072) : Arr r 3072 := fun i => X i * rs X (i 0)

/-- The gradient times the learned scale. -/
def dxh (D : Arr r 3072) (g : Arr 1 3072) : Arr r 3072 := fun i => D i * g (ix2 0 (i 1))

/-- The mean over a row of the gradient times the normalised input. -/
def dot (D : Arr r 3072) (g : Arr 1 3072) (X : Arr r 3072) (i : Fin r) : EReal :=
  Ideal.div (∑ k : Fin 3072, dxh D g (ix2 i k) * xhat X (ix2 i k)) width

/-- The gradient of the input. -/
def dx (D : Arr r 3072) (g : Arr 1 3072) (X : Arr r 3072) : Arr r 3072 := fun i =>
  rs X (i 0) * (dxh D g i - xhat X i * dot D g X (i 0))

/-- The gradient of the learned scale. -/
def dgamma (D X : Arr r 3072) (j : Fin 3072) : EReal := ∑ k : Fin r, D (ix2 k j) * xhat X (ix2 k j)

variable {N : ℕ} (f : Fin r → Fin N)

open Backward (rows)

theorem rs_rows (X : Arr N 3072) (i : Fin r) : rs (rows f X) i = rs X (f i) := rfl

theorem xhat_rows (X : Arr N 3072) : xhat (rows f X) = rows f (xhat X) := rfl

theorem dot_rows (D : Arr N 3072) (g : Arr 1 3072) (X : Arr N 3072) (i : Fin r) :
    dot (rows f D) g (rows f X) i = dot D g X (f i) := rfl

theorem dx_rows (D : Arr N 3072) (g : Arr 1 3072) (X : Arr N 3072) : dx (rows f D) g (rows f X) = rows f (dx D g X) := rfl

end Cert.NormBack

end
-- ==== Proof.DxPoint.lean ====
module

public import proofs.«01_k».proof.Proof.DxState
public import proofs.«01_k».proof.Proof.Scal
public import proofs.«01_k».proof.Proof.NormBack
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

/-! # The blocks of the kernel for the input gradient, from its arguments -/

namespace Cert.DxIdeal.Value

open Cert.DxIdeal Cert.DxIdeal.Gen

variable (m : (ℓ : Loc nD τ sig) → Buf (Elt Ideal) ℓ)

/-- Where each window's block lies at each grid point: row block `t / 12`, tile of features `t % 12`. -/
theorem idx : ∀ t : Fin cfg0.N, win0_0.index t = ![0, 0]
    ∧ win0_1.index t = ![0, 0]
    ∧ win0_2.index t = ![t.val / 12, 0]
    ∧ win0_3.index t = ![t.val / 12, 0]
    ∧ win0_4.index t = ![t.val % 12, 0]
    ∧ win0_5.index t = ![t.val % 12, 0]
    ∧ win0_6.index t = ![t.val / 12, 0]
    ∧ win0_7.index t = ![0, 0]
    ∧ win0_8.index t = ![t.val / 12, 0]
    ∧ win0_9.index t = ![0, t.val / 12]
    ∧ win0_10.index t = ![0, 0] :=
  (by decide +kernel : ∀ t : Fin grid0.N, _)

/-- Argument 0, a scalar. -/
abbrev a0 (c : Dev nD) : EReal := m ((c : Thread nD τ).loc main_arg0) (fun a => a.elim0)

/-- Argument 1, a scalar. -/
abbrev a1 (c : Dev nD) : EReal := m ((c : Thread nD τ).loc main_arg1) (fun a => a.elim0)

/-- Argument 2, a scalar. -/
abbrev a2 (c : Dev nD) : EReal := m ((c : Thread nD τ).loc main_arg2) (fun a => a.elim0)

/-- Argument 3, a scalar. -/
abbrev a3 (c : Dev nD) : EReal := m ((c : Thread nD τ).loc main_arg3) (fun a => a.elim0)

/-- Argument 4. -/
abbrev a4 (c : Dev nD) : FVec Ideal S2048x8192 .fp8e5m2 := m ((c : Thread nD τ).loc main_arg4)

/-- Argument 5. -/
abbrev a5 (c : Dev nD) : FVec Ideal S2048x8192 .fp8e5m2 := m ((c : Thread nD τ).loc main_arg5)

/-- Argument 6. -/
abbrev a6 (c : Dev nD) : FVec Ideal S3072x8192 .fp8e4m3 := m ((c : Thread nD τ).loc main_arg6)

/-- Argument 7. -/
abbrev a7 (c : Dev nD) : FVec Ideal S3072x8192 .fp8e4m3 := m ((c : Thread nD τ).loc main_arg7)

/-- Argument 8, without its leading axis of one element. -/
def a8 (c : Dev nD) : Backward.Arr 2048 3072 := fun i => (m ((c : Thread nD τ).loc main_arg8) : Vec Ideal S1x2048x3072 .bf16) (ix3 0 (i 0) (i 1))

/-- Argument 9, as one row. -/
def a9 (c : Dev nD) : Backward.Arr 1 3072 := fun i => (m ((c : Thread nD τ).loc main_arg9) : Vec Ideal S3072 .f32) (ix1 (i 1))

/-- The gradient of the normalised input, whole. -/
abbrev gD (c : Dev nD) : Backward.Arr 2048 3072 :=
  NormBack.dxn (a0 m c * a2 m c) (a1 m c * a3 m c) (a4 m c) (a5 m c) (a6 m c) (a7 m c)

/-- The rows of a grid point. -/
def row (t : Fin cfg0.N) (j : Fin 512) : Fin 2048 :=
  ⟨t.val / 12 * 512 + j.val, by have h : t.val < 48 := lt_of_lt_of_eq t.isLt N_0; omega⟩

/-- The features of a grid point's tile. -/
def feat (t : Fin cfg0.N) (j : Fin 256) : Fin 3072 :=
  ⟨t.val % 12 * 256 + j.val, by omega⟩

theorem blk0 (c : Dev nD) (t : Fin cfg0.N) : (iblk m c 0 t : Vec Ideal S1x1 .f32) (ix2 0 0) = a0 m c * a2 m c := by
  unfold iblk
  rw [View.read_apply]
  entry_read
  exact congrArg₂ (fun x y : EReal => x * y) (congrArg (m ((c : Thread nD τ).loc main_arg0)) (funext fun a => a.elim0))
    (congrArg (m ((c : Thread nD τ).loc main_arg2)) (funext fun a => a.elim0))

theorem blk1 (c : Dev nD) (t : Fin cfg0.N) : (iblk m c 1 t : Vec Ideal S1x1 .f32) (ix2 0 0) = a1 m c * a3 m c := by
  unfold iblk
  rw [View.read_apply]
  entry_read
  exact congrArg₂ (fun x y : EReal => x * y) (congrArg (m ((c : Thread nD τ).loc main_arg1)) (funext fun a => a.elim0))
    (congrArg (m ((c : Thread nD τ).loc main_arg3)) (funext fun a => a.elim0))

theorem blk2 (c : Dev nD) (t : Fin cfg0.N) : (iblk m c 2 t : Vec Ideal S512x8192 .fp8e5m2) = Backward.rows (row t) (a4 m c) := by
  funext i
  unfold Backward.rows
  blk_ext! [iblk, V, idx t, row]

theorem blk3 (c : Dev nD) (t : Fin cfg0.N) : (iblk m c 3 t : Vec Ideal S512x8192 .fp8e5m2) = Backward.rows (row t) (a5 m c) := by
  funext i
  unfold Backward.rows
  blk_ext! [iblk, V, idx t, row]

theorem blk4 (c : Dev nD) (t : Fin cfg0.N) : (iblk m c 4 t : Vec Ideal S256x8192 .fp8e4m3) = Backward.rows (feat t) (a6 m c) := by
  funext i
  unfold Backward.rows
  blk_ext! [iblk, V, idx t, feat]

theorem blk5 (c : Dev nD) (t : Fin cfg0.N) : (iblk m c 5 t : Vec Ideal S256x8192 .fp8e4m3) = Backward.rows (feat t) (a7 m c) := by
  funext i
  unfold Backward.rows
  blk_ext! [iblk, V, idx t, feat]

theorem blk6 (c : Dev nD) (t : Fin cfg0.N) : (iblk m c 6 t : Vec Ideal S512x3072 .bf16) = Backward.rows (row t) (a8 m c) := by
  funext i
  unfold Backward.rows a8
  blk_ext! [iblk, V, idx t, row]

theorem blk7 (c : Dev nD) (t : Fin cfg0.N) : (iblk m c 7 t : Vec Ideal S1x3072 .f32) = a9 m c := by
  funext i
  unfold a9
  blk_ext! [iblk, V, idx t]

/-- The tile the body makes at a point is the gradient read on the point's rows and features. -/
theorem tile_eq (c : Dev nD) (t : Fin cfg0.N) :
    tile m c t = fun i : S512x256.Idx => gD m c (ix2 (row t (i 0)) (feat t (i 1))) := by
  unfold tile
  rw [blk0, blk1, blk2, blk3, blk4, blk5]
  funext i
  pointwise [k0_pay1, gD, NormBack.dxn, Backward.rows]

/-- The whole rows of a row block. -/
theorem dxn_eq (c : Dev nD) (t : Fin cfg0.N) : dxn m c t = Backward.rows (row t) (gD m c) := by
  funext j
  have ht : t.val < 48 := lt_of_lt_of_eq t.isLt N_0
  have hj : (j 1).val < 3072 := (j 1).isLt
  unfold dxn
  rw [tile_eq]
  show gD m c (ix2 (row (at_ t j) (in_ j 0)) (feat (at_ t j) (in_ j 1))) = gD m c (ix2 (row t (j 0)) (j 1))
  have e0 : row (at_ t j) (in_ j 0) = row t (j 0) :=
    Fin.ext (show (12 * (t.val / 12) + (j 1).val / 256) / 12 * 512 + (j 0).val = t.val / 12 * 512 + (j 0).val by omega)
  have e1 : feat (at_ t j) (in_ j 1) = j 1 :=
    Fin.ext (show (12 * (t.val / 12) + (j 1).val / 256) % 12 * 256 + (j 1).val % 256 = (j 1).val by omega)
  rw [e0, e1]

/-- What the body stores into the block of the input gradient. -/
theorem pay_dx (X : Vec Ideal S512x3072 .bf16) (D : Vec Ideal S512x3072 .f32) (g : Vec Ideal S1x3072 .f32) :
    k0_pay2 (k0_pay5 X) (k0_pay6 X) (k0_pay9 D g) (k0_pay10 X D g) = (NormBack.dx D g X : Vec Ideal S512x3072 .bf16) := by
  funext i
  pointwise [k0_pay2, k0_pay4, k0_pay5, k0_pay6, k0_pay9, k0_pay10, NormBack.dx, NormBack.dot, NormBack.dxh, NormBack.xhat, NormBack.rs, NormBack.width]

/-- What the body stores into the block of the rows' means. -/
theorem pay_dot (X : Vec Ideal S512x3072 .bf16) (D : Vec Ideal S512x3072 .f32) (g : Vec Ideal S1x3072 .f32) :
    k0_pay11 X D g = (fun i => NormBack.dot D g X (i 1) : Vec Ideal S1x512 .f32) := by
  funext i
  pointwise [k0_pay11, k0_pay4, k0_pay5, k0_pay6, k0_pay9, k0_pay10, NormBack.dot, NormBack.dxh, NormBack.xhat, NormBack.rs, NormBack.width]

/-- The sum of every eighth row of a row block. -/
def eighths (X D : Backward.Arr 512 3072) (r : Fin 8) (j : Fin 3072) : EReal :=
  ∑ k : Fin 64, D (ix2 ⟨k.val * 8 + r.val, by omega⟩ j) * NormBack.xhat X (ix2 ⟨k.val * 8 + r.val, by omega⟩ j)

/-- What a row block adds to the sums. -/
theorem pay_sum (X : Vec Ideal S512x3072 .bf16) (D : Vec Ideal S512x3072 .f32) (i : S8x3072.Idx) :
    k0_pay7 X D i = eighths X D (i 0) (i 1) := by
  pointwise [k0_pay7, k0_pay4, k0_pay5, k0_pay6, eighths, NormBack.xhat, NormBack.rs, NormBack.width]

/-- The sums after one more row block. -/
theorem pay_add (X : Vec Ideal S512x3072 .bf16) (D : Vec Ideal S512x3072 .f32) (y : Vec Ideal S8x3072 .f32) (i : S8x3072.Idx) :
    k0_pay8 X D y i = y i + k0_pay7 X D i := by
  pointwise [k0_pay8]

/-- The sum of the eight rows. -/
theorem pay_row (y : Vec Ideal S8x3072 .f32) (i : S1x3072.Idx) : k0_pay3 y i = ∑ r : Fin 8, y (ix2 r (i 1)) := by
  pointwise [k0_pay3]

end Cert.DxIdeal.Value

end
-- ==== Proof.DxValue.lean ====
module

public import proofs.«01_k».proof.Proof.DxPoint
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem
open Idealize.ShloMosaic.Pipeline (Dat)

/-! # The results of the kernel for the input gradient -/

namespace Cert.DxIdeal.Value

open Cert.DxIdeal Cert.DxIdeal.Gen

variable (m : (ℓ : Loc nD τ sig) → Buf (Elt Ideal) ℓ)

/-- The kernel's result: the gradient of the input. -/
theorem final8 (c : Dev nD) : (dats m 0 c).arrAt 8 (cfgs 0).N = (NormBack.dx (gD m c) (a9 m c) (a8 m c) : Vec Ideal S2048x3072 .bf16) := by
  refine (dats m 0 c).arrAt_eq_of_covers 8 _ (by decide +kernel) fun t hf y => ?_
  blk_simp
  rw [after0_8, pay_dx, dxn_eq, blk6, blk7, NormBack.dx_rows]
  unfold Backward.rows
  refine congrArg _ ?_
  blk_ext [idx t, row]

/-- The kernel's result: the mean of each row. -/
theorem final9 (c : Dev nD) : (dats m 0 c).arrAt 9 (cfgs 0).N
    = (fun i => NormBack.dot (gD m c) (a9 m c) (a8 m c) (i 1) : Vec Ideal S1x2048 .f32) := by
  refine (dats m 0 c).arrAt_eq_of_covers 9 _ (by decide +kernel) fun t hf y => ?_
  blk_simp
  rw [after0_9, pay_dot, dxn_eq, blk6, blk7]
  refine (NormBack.dot_rows _ _ _ _ _).trans (congrArg (NormBack.dot (gD m c) (a9 m c) (a8 m c)) (Fin.ext ?_))
  blk_simp [idx t, row]

/-- One row block's sums, from the whole arrays. -/
theorem block_sum (c : Dev nD) (t : Fin cfg0.N) (n : ℕ) (h : t.val / 12 = n) (i : S8x3072.Idx) :
    k0_pay7 (iblk m c 6 t) (dxn m c t) i
      = eighths (Backward.rows (row t) (a8 m c)) (Backward.rows (row t) (gD m c)) (i 0) (i 1) := by
  rw [pay_sum, blk6, dxn_eq]

/-- A sum over all rows, row block by row block, and in a block every eighth row at a time. -/
theorem sum_rows (f : Fin 2048 → EReal) : ∑ k : Fin 2048, f k
    = ∑ r : Fin 8, ∑ n : Fin 4, ∑ k : Fin 64, f ⟨n.val * 512 + (k.val * 8 + r.val), by omega⟩ := by
  have e1 : ∑ k : Fin 2048, f k = ∑ n : Fin 4, ∑ q : Fin 512, f ⟨n.val * 512 + q.val, by omega⟩ := by
    rw [← Fintype.sum_prod_type']
    exact (Fintype.sum_equiv (finProdFinEquiv (m := 4) (n := 512)) _ _ fun x => congrArg f (Fin.ext (by
      show x.1.val * 512 + x.2.val = x.2.val + 512 * x.1.val; omega))).symm
  have e2 : ∀ n : Fin 4, ∑ q : Fin 512, f ⟨n.val * 512 + q.val, by omega⟩
      = ∑ k : Fin 64, ∑ r : Fin 8, f ⟨n.val * 512 + (k.val * 8 + r.val), by omega⟩ := fun n => by
    rw [← Fintype.sum_prod_type']
    exact (Fintype.sum_equiv (finProdFinEquiv (m := 64) (n := 8)) _ _ fun x => congrArg f (Fin.ext (by
      show n.val * 512 + (x.1.val * 8 + x.2.val) = n.val * 512 + (x.2.val + 8 * x.1.val); omega))).symm
  rw [e1, Finset.sum_congr rfl fun n _ => (e2 n).trans Finset.sum_comm, Finset.sum_comm]

/-- The sums' block before its first row is made, after the last row block. -/
def total (c : Dev nD) (i : S8x3072.Idx) : EReal :=
  ∑ n : Fin 4, eighths (Backward.rows (row (lastPt n)) (a8 m c)) (Backward.rows (row (lastPt n)) (gD m c)) (i 0) (i 1)

/-- The branches at the last points of the row blocks after the first. -/
theorem at_last : ¬cond0_1 (grid0.coords (lastPt 1)) ∧ ¬cond0_1 (grid0.coords (lastPt 2)) ∧ ¬cond0_1 (grid0.coords (lastPt 3))
    ∧ ¬cond0_3 (grid0.coords (lastPt 1)) ∧ ¬cond0_3 (grid0.coords (lastPt 2)) ∧ cond0_3 (grid0.coords (lastPt 3)) := by
  simp only [hcond0_1, hcond0_3]
  decide

theorem sums_2 (c : Dev nD) (i : S8x3072.Idx) : k0_pay8 (iblk m c 6 (lastPt 3)) (dxn m c (lastPt 3)) (sums m c 2) i = total m c i := by
  obtain ⟨h1, h2, h3, g1, g2, g3⟩ := at_last
  unfold total
  rw [Fin.sum_univ_four, pay_add]
  unfold sums acc
  rw [if_neg h2, if_neg g2, pay_add]
  unfold sums acc
  rw [if_neg h1, if_neg g1, pay_add]
  unfold sums
  simp only [pay_sum, blk6, dxn_eq]
  rfl

/-- The first row of the sums' block at the end is the gradient of the learned scale. -/
theorem sums_3 (c : Dev nD) (i : S8x3072.Idx) (h : (i 0).val = 0) :
    sums m c 3 i = NormBack.dgamma (gD m c) (a8 m c) (i 1) := by
  obtain ⟨h1, h2, h3, g1, g2, g3⟩ := at_last
  unfold sums acc
  rw [if_neg h3, if_pos g3]
  unfold VecWindow.put
  have hj : (i 1).val < 3072 := (i 1).isLt
  rw [dif_pos (Fin.forall_fin_two.mpr ⟨⟨Nat.zero_le _, show (i 0).val < 0 + 1 by omega⟩,
    Nat.zero_le _, show (i 1).val < 0 + 3072 by omega⟩), pay_row]
  unfold NormBack.dgamma
  rw [sum_rows]
  refine Finset.sum_congr rfl fun r _ => ?_
  rw [sums_2]
  unfold total
  refine Finset.sum_congr rfl fun n _ => ?_
  unfold eighths
  refine Finset.sum_congr rfl fun k _ => ?_
  have hn : (lastPt n).val / 12 = n.val := by
    show (12 * n.val + 11) % 48 / 12 = n.val
    omega
  have e : row (lastPt n) ⟨k.val * 8 + r.val, by omega⟩ = ⟨n.val * 512 + (k.val * 8 + r.val), by omega⟩ :=
    Fin.ext (congrArg (fun z => z * 512 + (k.val * 8 + r.val)) hn)
  rw [NormBack.xhat_rows]
  show gD m c (ix2 (row (lastPt n) ⟨k.val * 8 + r.val, _⟩) _) * NormBack.xhat (a8 m c) (ix2 (row (lastPt n) ⟨k.val * 8 + r.val, _⟩) _) = _
  rw [e]
  rfl

/-- The kernel's result: the sums' block at the end. -/
theorem final10 (c : Dev nD) : (dats m 0 c).arrAt 10 (cfgs 0).N = (sums m c 3 : Vec Ideal S8x3072 .f32) := by
  refine (dats m 0 c).arrAt_eq_of_after_last 10 (lastPt 3) (by decide +kernel) _ fun j => ?_
  blk_simp
  rw [after0_10]
  rfl

end Cert.DxIdeal.Value

end
-- ==== Proof.DxRef.lean ====
module

public import proofs.«01_k».proof.Proof.Gen.RDxIdeal.Frame
public import proofs.«01_k».proof.Proof.Scal
public import proofs.«01_k».proof.Proof.NormBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The reference for the input gradient: its results are formulas of its arguments -/

namespace Cert.RDxIdeal.Value

open Cert.RDxIdeal Cert.RDxIdeal.Gen

variable (m : (ℓ : Loc nD τ sig) → Buf (Elt Ideal) ℓ)

/-- The only grid point reads every argument whole. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0] :=
  (by decide +kernel : ∀ t : Fin grid0.N, _)

/-- Argument 0, a scalar. -/
abbrev a0 (c : Dev nD) : EReal := m ((c : Thread nD τ).loc main_arg0) (fun a => a.elim0)

/-- Argument 1, a scalar. -/
abbrev a1 (c : Dev nD) : EReal := m ((c : Thread nD τ).loc main_arg1) (fun a => a.elim0)

/-- Argument 2, a scalar. -/
abbrev a2 (c : Dev nD) : EReal := m ((c : Thread nD τ).loc main_arg2) (fun a => a.elim0)

/-- Argument 3, a scalar. -/
abbrev a3 (c : Dev nD) : EReal := m ((c : Thread nD τ).loc main_arg3) (fun a => a.elim0)

/-- Argument 4. -/
abbrev a4 (c : Dev nD) : FVec Ideal S2048x8192 .fp8e5m2 := m ((c : Thread nD τ).loc main_arg4)

/-- Argument 5. -/
abbrev a5 (c : Dev nD) : FVec Ideal S2048x8192 .fp8e5m2 := m ((c : Thread nD τ).loc main_arg5)

/-- Argument 6. -/
abbrev a6 (c : Dev nD) : FVec Ideal S3072x8192 .fp8e4m3 := m ((c : Thread nD τ).loc main_arg6)

/-- Argument 7. -/
abbrev a7 (c : Dev nD) : FVec Ideal S3072x8192 .fp8e4m3 := m ((c : Thread nD τ).loc main_arg7)

/-- Argument 8, without its leading axis of one element. -/
def a8 (c : Dev nD) : Backward.Arr 2048 3072 := fun i => (m ((c : Thread nD τ).loc main_arg8) : Vec Ideal S1x2048x3072 .bf16) (ix3 0 (i 0) (i 1))

/-- Argument 9, as one row. -/
def a9 (c : Dev nD) : Backward.Arr 1 3072 := fun i => (m ((c : Thread nD τ).loc main_arg9) : Vec Ideal S3072 .f32) (ix1 (i 1))

/-- The gradient of the normalised input, whole. -/
abbrev gD (c : Dev nD) : Backward.Arr 2048 3072 :=
  NormBack.dxn (a0 m c * a2 m c) (a1 m c * a3 m c) (a4 m c) (a5 m c) (a6 m c) (a7 m c)

theorem blk0 (c : Dev nD) (t : Fin cfg0.N) : (iblk m c 0 t : Vec Ideal S1x1 .f32) (ix2 0 0) = a0 m c := by
  unfold iblk
  rw [View.read_apply]
  entry_read
  exact congrArg (m ((c : Thread nD τ).loc main_arg0)) (funext fun a => a.elim0)

theorem blk1 (c : Dev nD) (t : Fin cfg0.N) : (iblk m c 1 t : Vec Ideal S1x1 .f32) (ix2 0 0) = a1 m c := by
  unfold iblk
  rw [View.read_apply]
  entry_read
  exact congrArg (m ((c : Thread nD τ).loc main_arg1)) (funext fun a => a.elim0)

theorem blk2 (c : Dev nD) (t : Fin cfg0.N) : (iblk m c 2 t : Vec Ideal S1x1 .f32) (ix2 0 0) = a2 m c := by
  unfold iblk
  rw [View.read_apply]
  entry_read
  exact congrArg (m ((c : Thread nD τ).loc main_arg2)) (funext fun a => a.elim0)

theorem blk3 (c : Dev nD) (t : Fin cfg0.N) : (iblk m c 3 t : Vec Ideal S1x1 .f32) (ix2 0 0) = a3 m c := by
  unfold iblk
  rw [View.read_apply]
  entry_read
  exact congrArg (m ((c : Thread nD τ).loc main_arg3)) (funext fun a => a.elim0)

theorem blk4 (c : Dev nD) (t : Fin cfg0.N) : (iblk m c 4 t : Vec Ideal S2048x8192 .fp8e5m2) = a4 m c := by
  blk_ext! [iblk, V, idx t]

theorem blk5 (c : Dev nD) (t : Fin cfg0.N) : (iblk m c 5 t : Vec Ideal S2048x8192 .fp8e5m2) = a5 m c := by
  blk_ext! [iblk, V, idx t]

theorem blk6 (c : Dev nD) (t : Fin cfg0.N) : (iblk m c 6 t : Vec Ideal S3072x8192 .fp8e4m3) = a6 m c := by
  blk_ext! [iblk, V, idx t]

theorem blk7 (c : Dev nD) (t : Fin cfg0.N) : (iblk m c 7 t : Vec Ideal S3072x8192 .fp8e4m3) = a7 m c := by
  blk_ext! [iblk, V, idx t]

theorem blk8 (c : Dev nD) (t : Fin cfg0.N) : (iblk m c 8 t : Vec Ideal S2048x3072 .bf16) = a8 m c := by
  funext i
  unfold a8
  blk_ext! [iblk, V, idx t]

theorem blk9 (c : Dev nD) (t : Fin cfg0.N) : (iblk m c 9 t : Vec Ideal S1x3072 .f32) = a9 m c := by
  funext i
  unfold a9
  blk_ext! [iblk, V, idx t]

/-- What the body leaves for the gradient of the input. -/
theorem out10 (c : Dev nD) (t : Fin cfg0.N) : ((outsAt0 m c t).1 : Vec Ideal S2048x3072 .bf16)
    = (NormBack.dx (gD m c) (a9 m c) (a8 m c)) := by
  unfold outsAt0
  frame_out
  simp only [read_unread_whole, Scal.first_eq]
  simp only [blk0, blk1, blk2, blk3, blk4, blk5, blk6, blk7, blk8, blk9]
  funext i
  pointwise [k0_pay5, k0_pay2, k0_pay3, k0_pay6, k0_pay7, k0_pay8, k0_pay9, gD, NormBack.dx, NormBack.dot, NormBack.dxh, NormBack.xhat, NormBack.rs, NormBack.width, NormBack.dxn, NormBack.dgamma]

/-- The reference's result: the gradient of the input. -/
theorem final10 (c : Dev nD) : (dats m 0 c).arrAt 10 (cfgs 0).N = (NormBack.dx (gD m c) (a9 m c) (a8 m c) : Vec Ideal S2048x3072 .bf16) := by
  refine (dats m 0 c).arrAt_eq_of_after_last 10 t0_0 (by decide +kernel) _ fun j => ?_
  blk_simp
  rw [after0_10, out10]

/-- What the body leaves for the mean of each row. -/
theorem out11 (c : Dev nD) (t : Fin cfg0.N) : ((outsAt0 m c t).2.1 : Vec Ideal S1x2048 .f32)
    = (fun i => NormBack.dot (gD m c) (a9 m c) (a8 m c) (i 1)) := by
  unfold outsAt0
  frame_out
  simp only [read_unread_whole, Scal.first_eq]
  simp only [blk0, blk1, blk2, blk3, blk4, blk5, blk6, blk7, blk8, blk9]
  funext i
  pointwise [k0_pay4, k0_pay3, k0_pay2, k0_pay6, k0_pay7, k0_pay8, k0_pay9, gD, NormBack.dx, NormBack.dot, NormBack.dxh, NormBack.xhat, NormBack.rs, NormBack.width, NormBack.dxn, NormBack.dgamma]

/-- The reference's result: the mean of each row. -/
theorem final11 (c : Dev nD) : (dats m 0 c).arrAt 11 (cfgs 0).N = (fun i => NormBack.dot (gD m c) (a9 m c) (a8 m c) (i 1) : Vec Ideal S1x2048 .f32) := by
  refine (dats m 0 c).arrAt_eq_of_after_last 11 t0_0 (by decide +kernel) _ fun j => ?_
  blk_simp
  rw [after0_11, out11]

/-- What the body leaves for the gradient of the learned scale. -/
theorem out12 (c : Dev nD) (t : Fin cfg0.N) : ((outsAt0 m c t).2.2 : Vec Ideal S8x3072 .f32)
    = (fun i => NormBack.dgamma (gD m c) (a8 m c) (i 1)) := by
  unfold outsAt0
  frame_out
  simp only [read_unread_whole, Scal.first_eq]
  simp only [blk0, blk1, blk2, blk3, blk4, blk5, blk6, blk7, blk8, blk9]
  funext i
  pointwise [k0_pay1, k0_pay10, k0_pay6, k0_pay7, k0_pay8, k0_pay9, gD, NormBack.dx, NormBack.dot, NormBack.dxh, NormBack.xhat, NormBack.rs, NormBack.width, NormBack.dxn, NormBack.dgamma]

/-- The reference's result: the gradient of the learned scale. -/
theorem final12 (c : Dev nD) : (dats m 0 c).arrAt 12 (cfgs 0).N = (fun i => NormBack.dgamma (gD m c) (a8 m c) (i 1) : Vec Ideal S8x3072 .f32) := by
  refine (dats m 0 c).arrAt_eq_of_after_last 12 t0_0 (by decide +kernel) _ fun j => ?_
  blk_simp
  rw [after0_12, out12]

end Cert.RDxIdeal.Value

end
-- ==== Proof.DxClaim.lean ====
/- The call for the input gradient: the idealized kernel and the reference leave the same results — the gradient of the input,
   the mean of each row, and the gradient of the learned scale in the first row of the third, the one row the host reads. -/
module

public import proofs.«01_k».proof.Defs
public import proofs.«01_k».proof.Proof.DxFrame
public import proofs.«01_k».proof.Proof.DxValue
public import proofs.«01_k».proof.Proof.DxRef
public import proofs.«01_k».proof.Proof.Gen.On_dgamma_row

@[expose] public section

set_option maxRecDepth 16384

noncomputable section

open Idealize.ShloMosaic Idealize.ShloMosaic.TcCoe Idealize.SL.Sem

namespace Cert.DxIdeal.Value

open Cert.DxIdeal Cert.DxIdeal.Gen

/-- What the run of the kernel leaves: its results, and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v6_0) = (NormBack.dx (gD m c) (a9 m c) (a8 m c) : Vec Ideal S2048x3072 .bf16) ∧
      r.2.mem ((c.tc : Thread nD τ).loc main_v6_1)
        = (fun i => NormBack.dot (gD m c) (a9 m c) (a8 m c) (i 1) : Vec Ideal S1x2048 .f32) ∧
      r.2.mem ((c.tc : Thread nD τ).loc main_v6_2) = (sums m c 3 : Vec Ideal S8x3072 .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9)) :=
  θ_run_mono (θ_run_and (run_main_quiescent m g) (unchanged m g)) fun _ hr c =>
    ⟨(arr_final m hr.1.1 c 8 rfl).trans (final8 m c),
      (arr_final m hr.1.1 c 9 rfl).trans (final9 m c),
      (arr_final m hr.1.1 c 10 rfl).trans (final10 m c), hr.2 c⟩

end Cert.DxIdeal.Value

namespace Cert.RDxIdeal.Value

open Cert.RDxIdeal Cert.RDxIdeal.Gen

/-- What the run of the reference leaves: its results, and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v6_0) = (NormBack.dx (gD m c) (a9 m c) (a8 m c) : Vec Ideal S2048x3072 .bf16) ∧
      r.2.mem ((c.tc : Thread nD τ).loc main_v6_1)
        = (fun i => NormBack.dot (gD m c) (a9 m c) (a8 m c) (i 1) : Vec Ideal S1x2048 .f32) ∧
      r.2.mem ((c.tc : Thread nD τ).loc main_v6_2)
        = (fun i => NormBack.dgamma (gD m c) (a8 m c) (i 1) : Vec Ideal S8x3072 .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9)) :=
  θ_run_mono (θ_run_and (run_main m g) (unchanged m g)) fun _ hr c =>
    ⟨((hr.1 c).1 10).trans (final10 m c),
      ((hr.1 c).1 11).trans (final11 m c),
      ((hr.1 c).1 12).trans (final12 m c), hr.2 c⟩

end Cert.RDxIdeal.Value

namespace Cert.Dx

/-- A row number below eight whose comparison with zero holds is zero. -/
theorem eq_zero : ∀ a : Fin 8, IntOp.cmpi .eq (BitVec.ofNat 32 a.val) 0#32 = 1#1 → a.val = 0 := by decide

/-- The kernel and the reference give the same results, the third in its first row, from the same arguments. -/
theorem algebraic : algebraic_DxIdeal_RDxIdeal_on_dgamma_row (hDxIdeal := Cert.DxIdeal.Gen.facts) (hRDxIdeal := Cert.RDxIdeal.Gen.facts)
    (hOn_dgamma_row := Cert.On_dgamma_row.Gen.facts) := by
  intro m g m' g' _ hagree
  refine ⟨fun c => NormBack.dx (Cert.DxIdeal.Value.gD m c) (Cert.DxIdeal.Value.a9 m c) (Cert.DxIdeal.Value.a8 m c),
    fun c i => NormBack.dot (Cert.DxIdeal.Value.gD m c) (Cert.DxIdeal.Value.a9 m c) (Cert.DxIdeal.Value.a8 m c) (i 1),
    fun c i => NormBack.dgamma (Cert.DxIdeal.Value.gD m c) (Cert.DxIdeal.Value.a8 m c) (i 1),
    θ_run_mono (Cert.DxIdeal.Value.run m g) fun r hr c => ?_, θ_run_mono (Cert.RDxIdeal.Value.run m' g') fun r hr c => ?_⟩
  · obtain ⟨r8, r9, r10, hargs⟩ := hr c
    refine ⟨fun i _ => congrFun r8 i, fun i _ => congrFun r9 i, fun i hi => (congrFun r10 i).trans ?_, hargs⟩
    exact Cert.DxIdeal.Value.sums_3 m c i (eq_zero (i 0) hi)
  · obtain ⟨r8, r9, r10, hargs⟩ := hr c
    obtain ⟨h0, h1, h2, h3, h4, h5, h6, h7, h8, h9⟩ := hagree c
    have e0 : Cert.RDxIdeal.Value.a0 m' c = Cert.DxIdeal.Value.a0 m c := congrFun h0 _
    have e1 : Cert.RDxIdeal.Value.a1 m' c = Cert.DxIdeal.Value.a1 m c := congrFun h1 _
    have e2 : Cert.RDxIdeal.Value.a2 m' c = Cert.DxIdeal.Value.a2 m c := congrFun h2 _
    have e3 : Cert.RDxIdeal.Value.a3 m' c = Cert.DxIdeal.Value.a3 m c := congrFun h3 _
    have e4 : Cert.RDxIdeal.Value.a4 m' c = Cert.DxIdeal.Value.a4 m c := h4
    have e5 : Cert.RDxIdeal.Value.a5 m' c = Cert.DxIdeal.Value.a5 m c := h5
    have e6 : Cert.RDxIdeal.Value.a6 m' c = Cert.DxIdeal.Value.a6 m c := h6
    have e7 : Cert.RDxIdeal.Value.a7 m' c = Cert.DxIdeal.Value.a7 m c := h7
    have e8 : Cert.RDxIdeal.Value.a8 m' c = Cert.DxIdeal.Value.a8 m c := funext fun i => congrFun h8 (ix3 0 (i 0) (i 1))
    have e9 : Cert.RDxIdeal.Value.a9 m' c = Cert.DxIdeal.Value.a9 m c := funext fun i => congrFun h9 (ix1 (i 1))
    have eg : Cert.RDxIdeal.Value.gD m' c = Cert.DxIdeal.Value.gD m c := by
      simp only [Cert.RDxIdeal.Value.gD, Cert.DxIdeal.Value.gD, e0, e1, e2, e3, e4, e5, e6, e7]
    rw [eg, e9, e8] at r8 r9
    rw [eg, e8] at r10
    exact ⟨fun i _ => congrFun r8 i, fun i _ => congrFun r9 i, fun i _ => congrFun r10 i, hargs⟩

end Cert.Dx

end
-- ==== Proof.BwdRef.lean ====
module

public import proofs.«01_k».proof.Proof.Gen.RBwdIdeal.Frame
public import proofs.«01_k».proof.Proof.Scal
public import proofs.«01_k».proof.Proof.Backward
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The reference for the backward pass: its results are formulas of its arguments -/

namespace Cert.RBwdIdeal.Value

open Cert.RBwdIdeal Cert.RBwdIdeal.Gen

variable (m : (ℓ : Loc nD τ sig) → Buf (Elt Ideal) ℓ)

/-- The only grid point reads every argument whole. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0] :=
  (by decide +kernel : ∀ t : Fin grid0.N, _)

/-- Argument 0, a scalar. -/
abbrev a0 (c : Dev nD) : EReal := m ((c : Thread nD τ).loc main_arg0) (ix2 0 0)

/-- Argument 1, a scalar. -/
abbrev a1 (c : Dev nD) : EReal := m ((c : Thread nD τ).loc main_arg1) (fun a => a.elim0)

/-- Argument 2, a scalar. -/
abbrev a2 (c : Dev nD) : EReal := m ((c : Thread nD τ).loc main_arg2) (fun a => a.elim0)

/-- Argument 3, a scalar. -/
abbrev a3 (c : Dev nD) : EReal := m ((c : Thread nD τ).loc main_arg3) (fun a => a.elim0)

/-- Argument 4, a scalar. -/
abbrev a4 (c : Dev nD) : EReal := m ((c : Thread nD τ).loc main_arg4) (fun a => a.elim0)

/-- Argument 5. -/
abbrev a5 (c : Dev nD) : FVec Ideal S3072x2048 .fp8e4m3 := m ((c : Thread nD τ).loc main_arg5)

/-- Argument 6. -/
abbrev a6 (c : Dev nD) : FVec Ideal S2048x3072 .fp8e5m2 := m ((c : Thread nD τ).loc main_arg6)

/-- Argument 7. -/
abbrev a7 (c : Dev nD) : FVec Ideal S8192x3072 .bf16 := m ((c : Thread nD τ).loc main_arg7)

/-- Argument 8. -/
abbrev a8 (c : Dev nD) : FVec Ideal S1x8192 .f32 := m ((c : Thread nD τ).loc main_arg8)

/-- Argument 9. -/
abbrev a9 (c : Dev nD) : FVec Ideal S2048x8192 .f32 := m ((c : Thread nD τ).loc main_arg9)

/-- Argument 10. -/
abbrev a10 (c : Dev nD) : FVec Ideal S2048x8192 .f32 := m ((c : Thread nD τ).loc main_arg10)

/-- The gradient of the gate, whole. -/
abbrev gDG (c : Dev nD) : Backward.Arr 2048 8192 :=
  Backward.dg (Backward.dh (a0 m c) (a3 m c) (a8 m c) (a6 m c) (Backward.w2 (a0 m c) (a8 m c) (a7 m c))) (a9 m c) (a10 m c)

/-- The gradient of the up projection's output, whole. -/
abbrev gDU (c : Dev nD) : Backward.Arr 2048 8192 :=
  Backward.du (Backward.dh (a0 m c) (a3 m c) (a8 m c) (a6 m c) (Backward.w2 (a0 m c) (a8 m c) (a7 m c))) (a9 m c)

theorem blk0 (c : Dev nD) (t : Fin cfg0.N) : (iblk m c 0 t : Vec Ideal S1x1 .f32) (ix2 0 0) = a0 m c := by
  unfold iblk
  rw [View.read_apply]
  exact congrArg (m ((c : Thread nD τ).loc main_arg0)) (Scal.one_eq _ _)

theorem blk1 (c : Dev nD) (t : Fin cfg0.N) : (iblk m c 1 t : Vec Ideal S1x1 .f32) (ix2 0 0) = a1 m c := by
  unfold iblk
  rw [View.read_apply]
  entry_read
  exact congrArg (m ((c : Thread nD τ).loc main_arg1)) (funext fun a => a.elim0)

theorem blk2 (c : Dev nD) (t : Fin cfg0.N) : (iblk m c 2 t : Vec Ideal S1x1 .f32) (ix2 0 0) = a2 m c := by
  unfold iblk
  rw [View.read_apply]
  entry_read
  exact congrArg (m ((c : Thread nD τ).loc main_arg2)) (funext fun a => a.elim0)

theorem blk3 (c : Dev nD) (t : Fin cfg0.N) : (iblk m c 3 t : Vec Ideal S1x1 .f32) (ix2 0 0) = a3 m c := by
  unfold iblk
  rw [View.read_apply]
  entry_read
  exact congrArg (m ((c : Thread nD τ).loc main_arg3)) (funext fun a => a.elim0)

theorem blk4 (c : Dev nD) (t : Fin cfg0.N) : (iblk m c 4 t : Vec Ideal S1x1 .f32) (ix2 0 0) = a4 m c := by
  unfold iblk
  rw [View.read_apply]
  entry_read
  exact congrArg (m ((c : Thread nD τ).loc main_arg4)) (funext fun a => a.elim0)

theorem blk5 (c : Dev nD) (t : Fin cfg0.N) :
    (iblk m c 5 t : Vec Ideal S3072x2048 .fp8e4m3) = (m ((c : Thread nD τ).loc main_arg5) : Vec Ideal S3072x2048 .fp8e4m3) := by
  blk_ext! [iblk, V, idx t]

theorem blk6 (c : Dev nD) (t : Fin cfg0.N) :
    (iblk m c 6 t : Vec Ideal S2048x3072 .fp8e5m2) = (m ((c : Thread nD τ).loc main_arg6) : Vec Ideal S2048x3072 .fp8e5m2) := by
  blk_ext! [iblk, V, idx t]

theorem blk7 (c : Dev nD) (t : Fin cfg0.N) :
    (iblk m c 7 t : Vec Ideal S8192x3072 .bf16) = (m ((c : Thread nD τ).loc main_arg7) : Vec Ideal S8192x3072 .bf16) := by
  blk_ext! [iblk, V, idx t]

theorem blk8 (c : Dev nD) (t : Fin cfg0.N) :
    (iblk m c 8 t : Vec Ideal S1x8192 .f32) = (m ((c : Thread nD τ).loc main_arg8) : Vec Ideal S1x8192 .f32) := by
  blk_ext! [iblk, V, idx t]

theorem blk9 (c : Dev nD) (t : Fin cfg0.N) :
    (iblk m c 9 t : Vec Ideal S2048x8192 .f32) = (m ((c : Thread nD τ).loc main_arg9) : Vec Ideal S2048x8192 .f32) := by
  blk_ext! [iblk, V, idx t]

theorem blk10 (c : Dev nD) (t : Fin cfg0.N) :
    (iblk m c 10 t : Vec Ideal S2048x8192 .f32) = (m ((c : Thread nD τ).loc main_arg10) : Vec Ideal S2048x8192 .f32) := by
  blk_ext! [iblk, V, idx t]

/-- What the body leaves for the codes of the down projection. -/
theorem out11 (c : Dev nD) (t : Fin cfg0.N) : ((outsAt0 m c t).1 : Vec Ideal S8192x3072 .fp8e4m3)
    = Backward.w2 (a0 m c) (a8 m c) (a7 m c) := by
  unfold outsAt0
  frame_out
  simp only [read_unread_whole, Scal.first_eq]
  simp only [blk0, blk1, blk2, blk3, blk4, blk5, blk6, blk7, blk8, blk9, blk10]
  funext i
  pointwise [k0_pay3, gDG, gDU, Backward.w2, Backward.q4]

/-- The reference's result: the codes of the down projection. -/
theorem final11 (c : Dev nD) : (dats m 0 c).arrAt 11 (cfgs 0).N = (Backward.w2 (a0 m c) (a8 m c) (a7 m c) : Vec Ideal S8192x3072 .fp8e4m3) := by
  refine (dats m 0 c).arrAt_eq_of_after_last 11 t0_0 (by decide +kernel) _ fun j => ?_
  blk_simp
  rw [after0_11, out11]

/-- What the body leaves for the codes of the gate gradient. -/
theorem out12 (c : Dev nD) (t : Fin cfg0.N) : ((outsAt0 m c t).2.1 : Vec Ideal S2048x8192 .fp8e5m2)
    = Backward.codes (a1 m c) (gDG m c) := by
  unfold outsAt0
  frame_out
  simp only [read_unread_whole, Scal.first_eq]
  simp only [blk0, blk1, blk2, blk3, blk4, blk5, blk6, blk7, blk8, blk9, blk10]
  funext i
  pointwise [k0_pay9, k0_pay7, k0_pay5, k0_pay6, k0_pay4, k0_pay3, gDG, gDU, Backward.codes, Backward.dg, Backward.dh, Backward.w2, Backward.q4, Backward.q5]

/-- The reference's result: the codes of the gate gradient. -/
theorem final12 (c : Dev nD) : (dats m 0 c).arrAt 12 (cfgs 0).N = (Backward.codes (a1 m c) (gDG m c) : Vec Ideal S2048x8192 .fp8e5m2) := by
  refine (dats m 0 c).arrAt_eq_of_after_last 12 t0_0 (by decide +kernel) _ fun j => ?_
  blk_simp
  rw [after0_12, out12]

/-- What the body leaves for the codes of the up gradient. -/
theorem out13 (c : Dev nD) (t : Fin cfg0.N) : ((outsAt0 m c t).2.2.1 : Vec Ideal S2048x8192 .fp8e5m2)
    = Backward.codes (a2 m c) (gDU m c) := by
  unfold outsAt0
  frame_out
  simp only [read_unread_whole, Scal.first_eq]
  simp only [blk0, blk1, blk2, blk3, blk4, blk5, blk6, blk7, blk8, blk9, blk10]
  funext i
  pointwise [k0_pay10, k0_pay8, k0_pay5, k0_pay4, k0_pay3, gDG, gDU, Backward.codes, Backward.du, Backward.dh, Backward.w2, Backward.q4, Backward.q5]

/-- The reference's result: the codes of the up gradient. -/
theorem final13 (c : Dev nD) : (dats m 0 c).arrAt 13 (cfgs 0).N = (Backward.codes (a2 m c) (gDU m c) : Vec Ideal S2048x8192 .fp8e5m2) := by
  refine (dats m 0 c).arrAt_eq_of_after_last 13 t0_0 (by decide +kernel) _ fun j => ?_
  blk_simp
  rw [after0_13, out13]

/-- What the body leaves for the gate weight gradient. -/
theorem out14 (c : Dev nD) (t : Fin cfg0.N) : ((outsAt0 m c t).2.2.2.1 : Vec Ideal S3072x8192 .bf16)
    = Backward.dw (a5 m c) (Backward.codes (a1 m c) (gDG m c)) (a4 m c * a1 m c) := by
  unfold outsAt0
  frame_out
  simp only [read_unread_whole, Scal.first_eq]
  simp only [blk0, blk1, blk2, blk3, blk4, blk5, blk6, blk7, blk8, blk9, blk10]
  funext i
  pointwise [k0_pay11, k0_pay9, k0_pay7, k0_pay5, k0_pay6, k0_pay4, k0_pay3, gDG, gDU, Backward.dw, Backward.codes, Backward.dg, Backward.dh, Backward.w2, Backward.q4, Backward.q5]

/-- The reference's result: the gate weight gradient. -/
theorem final14 (c : Dev nD) : (dats m 0 c).arrAt 14 (cfgs 0).N = (Backward.dw (a5 m c) (Backward.codes (a1 m c) (gDG m c)) (a4 m c * a1 m c) : Vec Ideal S3072x8192 .bf16) := by
  refine (dats m 0 c).arrAt_eq_of_after_last 14 t0_0 (by decide +kernel) _ fun j => ?_
  blk_simp
  rw [after0_14, out14]

/-- What the body leaves for the up weight gradient. -/
theorem out15 (c : Dev nD) (t : Fin cfg0.N) : ((outsAt0 m c t).2.2.2.2.1 : Vec Ideal S3072x8192 .bf16)
    = Backward.dw (a5 m c) (Backward.codes (a2 m c) (gDU m c)) (a4 m c * a2 m c) := by
  unfold outsAt0
  frame_out
  simp only [read_unread_whole, Scal.first_eq]
  simp only [blk0, blk1, blk2, blk3, blk4, blk5, blk6, blk7, blk8, blk9, blk10]
  funext i
  pointwise [k0_pay12, k0_pay10, k0_pay8, k0_pay5, k0_pay4, k0_pay3, gDG, gDU, Backward.dw, Backward.codes, Backward.du, Backward.dh, Backward.w2, Backward.q4, Backward.q5]

/-- The reference's result: the up weight gradient. -/
theorem final15 (c : Dev nD) : (dats m 0 c).arrAt 15 (cfgs 0).N = (Backward.dw (a5 m c) (Backward.codes (a2 m c) (gDU m c)) (a4 m c * a2 m c) : Vec Ideal S3072x8192 .bf16) := by
  refine (dats m 0 c).arrAt_eq_of_after_last 15 t0_0 (by decide +kernel) _ fun j => ?_
  blk_simp
  rw [after0_15, out15]

/-- What the body leaves for the largest size of the gate gradient. -/
theorem out16 (c : Dev nD) (t : Fin cfg0.N) : ((outsAt0 m c t).2.2.2.2.2.1 : Vec Ideal S1x1 .f32)
    = fun _ => Backward.amax (gDG m c) := by
  unfold outsAt0
  frame_out
  simp only [read_unread_whole, Scal.first_eq]
  simp only [blk0, blk1, blk2, blk3, blk4, blk5, blk6, blk7, blk8, blk9, blk10]
  funext i
  pointwise [k0_pay1, k0_pay13, k0_pay7, k0_pay5, k0_pay6, k0_pay4, k0_pay3, gDG, gDU, Backward.amax, Backward.dg, Backward.dh, Backward.w2, Backward.q4]

/-- The reference's result: the largest size of the gate gradient. -/
theorem final16 (c : Dev nD) : (dats m 0 c).arrAt 16 (cfgs 0).N = (fun _ => Backward.amax (gDG m c) : Vec Ideal S1x1 .f32) := by
  refine (dats m 0 c).arrAt_eq_of_after_last 16 t0_0 (by decide +kernel) _ fun j => ?_
  blk_simp
  rw [after0_16, out16]

/-- What the body leaves for the largest size of the up gradient. -/
theorem out17 (c : Dev nD) (t : Fin cfg0.N) : ((outsAt0 m c t).2.2.2.2.2.2 : Vec Ideal S1x1 .f32)
    = fun _ => Backward.amax (gDU m c) := by
  unfold outsAt0
  frame_out
  simp only [read_unread_whole, Scal.first_eq]
  simp only [blk0, blk1, blk2, blk3, blk4, blk5, blk6, blk7, blk8, blk9, blk10]
  funext i
  pointwise [k0_pay2, k0_pay8, k0_pay5, k0_pay4, k0_pay3, gDG, gDU, Backward.amax, Backward.du, Backward.dh, Backward.w2, Backward.q4]

/-- The reference's result: the largest size of the up gradient. -/
theorem final17 (c : Dev nD) : (dats m 0 c).arrAt 17 (cfgs 0).N = (fun _ => Backward.amax (gDU m c) : Vec Ideal S1x1 .f32) := by
  refine (dats m 0 c).arrAt_eq_of_after_last 17 t0_0 (by decide +kernel) _ fun j => ?_
  blk_simp
  rw [after0_17, out17]

end Cert.RBwdIdeal.Value

end
-- ==== Proof.BwdTiles.lean ====
module

public import proofs.«01_k».proof.Proof.Gen.BwdIdeal.Frame
public import proofs.«01_k».proof.Proof.Scal
public import proofs.«01_k».proof.Proof.Backward
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The tiles a grid point of the backward kernel stores -/

namespace Cert.BwdIdeal.Value

open Cert.BwdIdeal Cert.BwdIdeal.Gen

variable (m : (ℓ : Loc nD τ sig) → Buf (Elt Ideal) ℓ)

/-- The stores into the block of down projection codes, last first: 24 tiles of 128 features. -/
def L2 (s0 : Elt Ideal .f32) (H : Vec Ideal S1x256 .f32) (W : Vec Ideal S256x3072 .bf16) :
    List (View.Piece (Elt Ideal) S256x3072 .fp8e4m3) :=
  [⟨Rect.unit ![0, 2944] ![256, 128] inb_S256x3072_S256x128_0_2944, k0_pay33 s0 (k0_pay6 H) (View.ld W (Rect.unit ![0, 2944] ![256, 128] inb_S256x3072_S256x128_0_2944))⟩,
   ⟨Rect.unit ![0, 2816] ![256, 128] inb_S256x3072_S256x128_0_2816, k0_pay32 (k0_pay31 s0 (k0_pay6 H) (View.ld W (Rect.unit ![0, 2816] ![256, 128] inb_S256x3072_S256x128_0_2816))) (FloatOps.ofBits (F := Ideal) FTy.f32 3286237184#32)⟩,
   ⟨Rect.unit ![0, 2688] ![256, 128] inb_S256x3072_S256x128_0_2688, k0_pay30 s0 (k0_pay6 H) (View.ld W (Rect.unit ![0, 2688] ![256, 128] inb_S256x3072_S256x128_0_2688))⟩,
   ⟨Rect.unit ![0, 2560] ![256, 128] inb_S256x3072_S256x128_0_2560, k0_pay29 s0 (k0_pay6 H) (View.ld W (Rect.unit ![0, 2560] ![256, 128] inb_S256x3072_S256x128_0_2560))⟩,
   ⟨Rect.unit ![0, 2432] ![256, 128] inb_S256x3072_S256x128_0_2432, k0_pay28 s0 (k0_pay6 H) (View.ld W (Rect.unit ![0, 2432] ![256, 128] inb_S256x3072_S256x128_0_2432))⟩,
   ⟨Rect.unit ![0, 2304] ![256, 128] inb_S256x3072_S256x128_0_2304, k0_pay27 s0 (k0_pay6 H) (View.ld W (Rect.unit ![0, 2304] ![256, 128] inb_S256x3072_S256x128_0_2304))⟩,
   ⟨Rect.unit ![0, 2176] ![256, 128] inb_S256x3072_S256x128_0_2176, k0_pay26 s0 (k0_pay6 H) (View.ld W (Rect.unit ![0, 2176] ![256, 128] inb_S256x3072_S256x128_0_2176))⟩,
   ⟨Rect.unit ![0, 2048] ![256, 128] inb_S256x3072_S256x128_0_2048, k0_pay25 s0 (k0_pay6 H) (View.ld W (Rect.unit ![0, 2048] ![256, 128] inb_S256x3072_S256x128_0_2048))⟩,
   ⟨Rect.unit ![0, 1920] ![256, 128] inb_S256x3072_S256x128_0_1920, k0_pay24 s0 (k0_pay6 H) (View.ld W (Rect.unit ![0, 1920] ![256, 128] inb_S256x3072_S256x128_0_1920))⟩,
   ⟨Rect.unit ![0, 1792] ![256, 128] inb_S256x3072_S256x128_0_1792, k0_pay23 s0 (k0_pay6 H) (View.ld W (Rect.unit ![0, 1792] ![256, 128] inb_S256x3072_S256x128_0_1792))⟩,
   ⟨Rect.unit ![0, 1664] ![256, 128] inb_S256x3072_S256x128_0_1664, k0_pay22 s0 (k0_pay6 H) (View.ld W (Rect.unit ![0, 1664] ![256, 128] inb_S256x3072_S256x128_0_1664))⟩,
   ⟨Rect.unit ![0, 1536] ![256, 128] inb_S256x3072_S256x128_0_1536, k0_pay21 (k0_pay20 s0 (k0_pay6 H) (View.ld W (Rect.unit ![0, 1536] ![256, 128] inb_S256x3072_S256x128_0_1536))) (FloatOps.ofBits (F := Ideal) FTy.f32 3286237184#32)⟩,
   ⟨Rect.unit ![0, 1408] ![256, 128] inb_S256x3072_S256x128_0_1408, k0_pay19 s0 (k0_pay6 H) (View.ld W (Rect.unit ![0, 1408] ![256, 128] inb_S256x3072_S256x128_0_1408))⟩,
   ⟨Rect.unit ![0, 1280] ![256, 128] inb_S256x3072_S256x128_0_1280, k0_pay18 s0 (k0_pay6 H) (View.ld W (Rect.unit ![0, 1280] ![256, 128] inb_S256x3072_S256x128_0_1280))⟩,
   ⟨Rect.unit ![0, 1152] ![256, 128] inb_S256x3072_S256x128_0_1152, k0_pay17 s0 (k0_pay6 H) (View.ld W (Rect.unit ![0, 1152] ![256, 128] inb_S256x3072_S256x128_0_1152))⟩,
   ⟨Rect.unit ![0, 1024] ![256, 128] inb_S256x3072_S256x128_0_1024, k0_pay16 s0 (k0_pay6 H) (View.ld W (Rect.unit ![0, 1024] ![256, 128] inb_S256x3072_S256x128_0_1024))⟩,
   ⟨Rect.unit ![0, 896] ![256, 128] inb_S256x3072_S256x128_0_896, k0_pay15 s0 (k0_pay6 H) (View.ld W (Rect.unit ![0, 896] ![256, 128] inb_S256x3072_S256x128_0_896))⟩,
   ⟨Rect.unit ![0, 768] ![256, 128] inb_S256x3072_S256x128_0_768, k0_pay14 s0 (k0_pay6 H) (View.ld W (Rect.unit ![0, 768] ![256, 128] inb_S256x3072_S256x128_0_768))⟩,
   ⟨Rect.unit ![0, 640] ![256, 128] inb_S256x3072_S256x128_0_640, k0_pay13 s0 (k0_pay6 H) (View.ld W (Rect.unit ![0, 640] ![256, 128] inb_S256x3072_S256x128_0_640))⟩,
   ⟨Rect.unit ![0, 512] ![256, 128] inb_S256x3072_S256x128_0_512, k0_pay12 s0 (k0_pay6 H) (View.ld W (Rect.unit ![0, 512] ![256, 128] inb_S256x3072_S256x128_0_512))⟩,
   ⟨Rect.unit ![0, 384] ![256, 128] inb_S256x3072_S256x128_0_384, k0_pay11 s0 (k0_pay6 H) (View.ld W (Rect.unit ![0, 384] ![256, 128] inb_S256x3072_S256x128_0_384))⟩,
   ⟨Rect.unit ![0, 256] ![256, 128] inb_S256x3072_S256x128_0_256, k0_pay10 (k0_pay9 s0 H (View.ld W (Rect.unit ![0, 256] ![256, 128] inb_S256x3072_S256x128_0_256))) (FloatOps.ofBits (F := Ideal) FTy.f32 3286237184#32)⟩,
   ⟨Rect.unit ![0, 128] ![256, 128] inb_S256x3072_S256x128_0_128, k0_pay8 s0 H (View.ld W (Rect.unit ![0, 128] ![256, 128] inb_S256x3072_S256x128_0_128))⟩,
   ⟨Rect.unit ![0, 0] ![256, 128] inb_S256x3072_S256x128_0_0, k0_pay7 s0 H (View.ld W (Rect.unit ![0, 0] ![256, 128] inb_S256x3072_S256x128_0_0))⟩]

/-- The stores into the block of gate gradient codes, last first: 8 tiles of 256 tokens. -/
def LDG (s0 s1 s3 : Elt Ideal .f32) (H : Vec Ideal S1x256 .f32) (Y : Vec Ideal S2048x3072 .fp8e5m2)
    (B : Vec Ideal S256x3072 .fp8e4m3) (G U : Vec Ideal S2048x256 .f32) :
    List (View.Piece (Elt Ideal) S2048x256 .fp8e5m2) :=
  [⟨Rect.unit ![1792, 0] ![256, 256] inb_S2048x256_S256x256_1792_0, k0_pay105 (k0_pay103 s0 (k0_pay34 H) s1 (View.ld Y (Rect.unit ![1792, 0] ![256, 3072] inb_S2048x3072_S256x3072_1792_0)) B s3 (View.ld G (Rect.unit ![1792, 0] ![256, 256] inb_S2048x256_S256x256_1792_0)) (View.ld U (Rect.unit ![1792, 0] ![256, 256] inb_S2048x256_S256x256_1792_0))) k0_pay104⟩,
   ⟨Rect.unit ![1536, 0] ![256, 256] inb_S2048x256_S256x256_1536_0, k0_pay94 s0 (k0_pay34 H) s1 (View.ld Y (Rect.unit ![1536, 0] ![256, 3072] inb_S2048x3072_S256x3072_1536_0)) B s3 (View.ld G (Rect.unit ![1536, 0] ![256, 256] inb_S2048x256_S256x256_1536_0)) (View.ld U (Rect.unit ![1536, 0] ![256, 256] inb_S2048x256_S256x256_1536_0))⟩,
   ⟨Rect.unit ![1280, 0] ![256, 256] inb_S2048x256_S256x256_1280_0, k0_pay86 s1 (k0_pay80 s0 (k0_pay34 H) (View.ld Y (Rect.unit ![1280, 0] ![256, 3072] inb_S2048x3072_S256x3072_1280_0)) B s3) (View.ld G (Rect.unit ![1280, 0] ![256, 256] inb_S2048x256_S256x256_1280_0)) (View.ld U (Rect.unit ![1280, 0] ![256, 256] inb_S2048x256_S256x256_1280_0))⟩,
   ⟨Rect.unit ![1024, 0] ![256, 256] inb_S2048x256_S256x256_1024_0, k0_pay78 s1 (View.ld G (Rect.unit ![1024, 0] ![256, 256] inb_S2048x256_S256x256_1024_0)) (k0_pay72 s0 (k0_pay34 H) (View.ld Y (Rect.unit ![1024, 0] ![256, 3072] inb_S2048x3072_S256x3072_1024_0)) B s3 (View.ld G (Rect.unit ![1024, 0] ![256, 256] inb_S2048x256_S256x256_1024_0)) (View.ld U (Rect.unit ![1024, 0] ![256, 256] inb_S2048x256_S256x256_1024_0))) (k0_pay73 (View.ld G (Rect.unit ![1024, 0] ![256, 256] inb_S2048x256_S256x256_1024_0)))⟩,
   ⟨Rect.unit ![768, 0] ![256, 256] inb_S2048x256_S256x256_768_0, k0_pay68 s1 (k0_pay64 s0 (k0_pay34 H) (View.ld Y (Rect.unit ![768, 0] ![256, 3072] inb_S2048x3072_S256x3072_768_0)) B s3 (View.ld G (Rect.unit ![768, 0] ![256, 256] inb_S2048x256_S256x256_768_0)) (View.ld U (Rect.unit ![768, 0] ![256, 256] inb_S2048x256_S256x256_768_0)))⟩,
   ⟨Rect.unit ![512, 0] ![256, 256] inb_S2048x256_S256x256_512_0, k0_pay60 (k0_pay58 s0 (k0_pay34 H) s1 (View.ld Y (Rect.unit ![512, 0] ![256, 3072] inb_S2048x3072_S256x3072_512_0)) B s3 (View.ld G (Rect.unit ![512, 0] ![256, 256] inb_S2048x256_S256x256_512_0)) (View.ld U (Rect.unit ![512, 0] ![256, 256] inb_S2048x256_S256x256_512_0))) k0_pay59⟩,
   ⟨Rect.unit ![256, 0] ![256, 256] inb_S2048x256_S256x256_256_0, k0_pay49 s0 (k0_pay34 H) s1 (View.ld Y (Rect.unit ![256, 0] ![256, 3072] inb_S2048x3072_S256x3072_256_0)) B s3 (View.ld G (Rect.unit ![256, 0] ![256, 256] inb_S2048x256_S256x256_256_0)) (View.ld U (Rect.unit ![256, 0] ![256, 256] inb_S2048x256_S256x256_256_0))⟩,
   ⟨Rect.unit ![0, 0] ![256, 256] inb_S2048x256_S256x256_0_0, k0_pay41 s1 (k0_pay35 s0 H (View.ld Y (Rect.unit ![0, 0] ![256, 3072] inb_S2048x3072_S256x3072_0_0)) B s3) (View.ld G (Rect.unit ![0, 0] ![256, 256] inb_S2048x256_S256x256_0_0)) (View.ld U (Rect.unit ![0, 0] ![256, 256] inb_S2048x256_S256x256_0_0))⟩]

/-- The stores into the block of up gradient codes, last first: 8 tiles of 256 tokens. -/
def LDU (s0 s2 s3 : Elt Ideal .f32) (H : Vec Ideal S1x256 .f32) (Y : Vec Ideal S2048x3072 .fp8e5m2)
    (B : Vec Ideal S256x3072 .fp8e4m3) (G : Vec Ideal S2048x256 .f32) :
    List (View.Piece (Elt Ideal) S2048x256 .fp8e5m2) :=
  [⟨Rect.unit ![1792, 0] ![256, 256] inb_S2048x256_S256x256_1792_0, k0_pay106 s2 (k0_pay100 s0 (k0_pay34 H) (View.ld Y (Rect.unit ![1792, 0] ![256, 3072] inb_S2048x3072_S256x3072_1792_0)) B s3 (View.ld G (Rect.unit ![1792, 0] ![256, 256] inb_S2048x256_S256x256_1792_0)))⟩,
   ⟨Rect.unit ![1536, 0] ![256, 256] inb_S2048x256_S256x256_1536_0, k0_pay96 (FloatOps.ofBits (F := Ideal) FTy.f32 1197473792#32) (k0_pay95 s0 (k0_pay34 H) s2 (View.ld Y (Rect.unit ![1536, 0] ![256, 3072] inb_S2048x3072_S256x3072_1536_0)) B s3 (View.ld G (Rect.unit ![1536, 0] ![256, 256] inb_S2048x256_S256x256_1536_0)))⟩,
   ⟨Rect.unit ![1280, 0] ![256, 256] inb_S2048x256_S256x256_1280_0, k0_pay87 s2 (k0_pay80 s0 (k0_pay34 H) (View.ld Y (Rect.unit ![1280, 0] ![256, 3072] inb_S2048x3072_S256x3072_1280_0)) B s3) (View.ld G (Rect.unit ![1280, 0] ![256, 256] inb_S2048x256_S256x256_1280_0))⟩,
   ⟨Rect.unit ![1024, 0] ![256, 256] inb_S2048x256_S256x256_1024_0, k0_pay79 s2 (k0_pay70 s0 (k0_pay34 H) (View.ld Y (Rect.unit ![1024, 0] ![256, 3072] inb_S2048x3072_S256x3072_1024_0)) B s3) (View.ld G (Rect.unit ![1024, 0] ![256, 256] inb_S2048x256_S256x256_1024_0)) (k0_pay71 (View.ld G (Rect.unit ![1024, 0] ![256, 256] inb_S2048x256_S256x256_1024_0)))⟩,
   ⟨Rect.unit ![768, 0] ![256, 256] inb_S2048x256_S256x256_768_0, k0_pay69 s2 (k0_pay65 s0 (k0_pay34 H) (View.ld Y (Rect.unit ![768, 0] ![256, 3072] inb_S2048x3072_S256x3072_768_0)) B s3 (View.ld G (Rect.unit ![768, 0] ![256, 256] inb_S2048x256_S256x256_768_0)))⟩,
   ⟨Rect.unit ![512, 0] ![256, 256] inb_S2048x256_S256x256_512_0, k0_pay61 s2 (k0_pay55 s0 (k0_pay34 H) (View.ld Y (Rect.unit ![512, 0] ![256, 3072] inb_S2048x3072_S256x3072_512_0)) B s3 (View.ld G (Rect.unit ![512, 0] ![256, 256] inb_S2048x256_S256x256_512_0)))⟩,
   ⟨Rect.unit ![256, 0] ![256, 256] inb_S2048x256_S256x256_256_0, k0_pay51 (FloatOps.ofBits (F := Ideal) FTy.f32 1197473792#32) (k0_pay50 s0 (k0_pay34 H) s2 (View.ld Y (Rect.unit ![256, 0] ![256, 3072] inb_S2048x3072_S256x3072_256_0)) B s3 (View.ld G (Rect.unit ![256, 0] ![256, 256] inb_S2048x256_S256x256_256_0)))⟩,
   ⟨Rect.unit ![0, 0] ![256, 256] inb_S2048x256_S256x256_0_0, k0_pay42 s2 (k0_pay35 s0 H (View.ld Y (Rect.unit ![0, 0] ![256, 3072] inb_S2048x3072_S256x3072_0_0)) B s3) (View.ld G (Rect.unit ![0, 0] ![256, 256] inb_S2048x256_S256x256_0_0))⟩]

/-- The running maxima of the gate gradients' sizes after a grid point, from those before it. -/
def MG (Z : Vec Ideal S8x256 .f32) (s0 s3 : Elt Ideal .f32) (H : Vec Ideal S1x256 .f32)
    (Y : Vec Ideal S2048x3072 .fp8e5m2) (B : Vec Ideal S256x3072 .fp8e4m3) (G U : Vec Ideal S2048x256 .f32) :
    Vec Ideal S8x256 .f32 :=
  k0_pay107 (k0_pay101 s0 (k0_pay34 H) (k0_pay92 s0 (k0_pay34 H) (k0_pay84 (k0_pay76 (k0_pay66 s0 (k0_pay34 H) (k0_pay56 s0 (k0_pay34 H) (k0_pay47 s0 (k0_pay34 H) (k0_pay39 Z (k0_pay35 s0 H (View.ld Y (Rect.unit ![0, 0] ![256, 3072] inb_S2048x3072_S256x3072_0_0)) B s3) (View.ld G (Rect.unit ![0, 0] ![256, 256] inb_S2048x256_S256x256_0_0)) (View.ld U (Rect.unit ![0, 0] ![256, 256] inb_S2048x256_S256x256_0_0))) (View.ld Y (Rect.unit ![256, 0] ![256, 3072] inb_S2048x3072_S256x3072_256_0)) B s3 (View.ld G (Rect.unit ![256, 0] ![256, 256] inb_S2048x256_S256x256_256_0)) (View.ld U (Rect.unit ![256, 0] ![256, 256] inb_S2048x256_S256x256_256_0))) (View.ld Y (Rect.unit ![512, 0] ![256, 3072] inb_S2048x3072_S256x3072_512_0)) B s3 (View.ld G (Rect.unit ![512, 0] ![256, 256] inb_S2048x256_S256x256_512_0)) (View.ld U (Rect.unit ![512, 0] ![256, 256] inb_S2048x256_S256x256_512_0))) (View.ld Y (Rect.unit ![768, 0] ![256, 3072] inb_S2048x3072_S256x3072_768_0)) B s3 (View.ld G (Rect.unit ![768, 0] ![256, 256] inb_S2048x256_S256x256_768_0)) (View.ld U (Rect.unit ![768, 0] ![256, 256] inb_S2048x256_S256x256_768_0))) (View.ld G (Rect.unit ![1024, 0] ![256, 256] inb_S2048x256_S256x256_1024_0)) (k0_pay72 s0 (k0_pay34 H) (View.ld Y (Rect.unit ![1024, 0] ![256, 3072] inb_S2048x3072_S256x3072_1024_0)) B s3 (View.ld G (Rect.unit ![1024, 0] ![256, 256] inb_S2048x256_S256x256_1024_0)) (View.ld U (Rect.unit ![1024, 0] ![256, 256] inb_S2048x256_S256x256_1024_0))) (k0_pay73 (View.ld G (Rect.unit ![1024, 0] ![256, 256] inb_S2048x256_S256x256_1024_0)))) (k0_pay80 s0 (k0_pay34 H) (View.ld Y (Rect.unit ![1280, 0] ![256, 3072] inb_S2048x3072_S256x3072_1280_0)) B s3) (View.ld G (Rect.unit ![1280, 0] ![256, 256] inb_S2048x256_S256x256_1280_0)) (View.ld U (Rect.unit ![1280, 0] ![256, 256] inb_S2048x256_S256x256_1280_0))) (View.ld Y (Rect.unit ![1536, 0] ![256, 3072] inb_S2048x3072_S256x3072_1536_0)) B s3 (View.ld G (Rect.unit ![1536, 0] ![256, 256] inb_S2048x256_S256x256_1536_0)) (View.ld U (Rect.unit ![1536, 0] ![256, 256] inb_S2048x256_S256x256_1536_0))) (View.ld Y (Rect.unit ![1792, 0] ![256, 3072] inb_S2048x3072_S256x3072_1792_0)) B s3 (View.ld G (Rect.unit ![1792, 0] ![256, 256] inb_S2048x256_S256x256_1792_0)) (View.ld U (Rect.unit ![1792, 0] ![256, 256] inb_S2048x256_S256x256_1792_0)))

/-- The running maxima of the up gradients' sizes after a grid point, from those before it. -/
def MU (Z : Vec Ideal S8x256 .f32) (s0 s3 : Elt Ideal .f32) (H : Vec Ideal S1x256 .f32)
    (Y : Vec Ideal S2048x3072 .fp8e5m2) (B : Vec Ideal S256x3072 .fp8e4m3) (G : Vec Ideal S2048x256 .f32) :
    Vec Ideal S8x256 .f32 :=
  k0_pay108 (k0_pay102 s0 (k0_pay34 H) (k0_pay93 s0 (k0_pay34 H) (k0_pay85 (k0_pay77 (k0_pay67 (k0_pay57 s0 (k0_pay34 H) (k0_pay48 s0 (k0_pay34 H) (k0_pay40 Z (k0_pay35 s0 H (View.ld Y (Rect.unit ![0, 0] ![256, 3072] inb_S2048x3072_S256x3072_0_0)) B s3) (View.ld G (Rect.unit ![0, 0] ![256, 256] inb_S2048x256_S256x256_0_0))) (View.ld Y (Rect.unit ![256, 0] ![256, 3072] inb_S2048x3072_S256x3072_256_0)) B s3 (View.ld G (Rect.unit ![256, 0] ![256, 256] inb_S2048x256_S256x256_256_0))) (View.ld Y (Rect.unit ![512, 0] ![256, 3072] inb_S2048x3072_S256x3072_512_0)) B s3 (View.ld G (Rect.unit ![512, 0] ![256, 256] inb_S2048x256_S256x256_512_0))) (k0_pay65 s0 (k0_pay34 H) (View.ld Y (Rect.unit ![768, 0] ![256, 3072] inb_S2048x3072_S256x3072_768_0)) B s3 (View.ld G (Rect.unit ![768, 0] ![256, 256] inb_S2048x256_S256x256_768_0)))) (k0_pay70 s0 (k0_pay34 H) (View.ld Y (Rect.unit ![1024, 0] ![256, 3072] inb_S2048x3072_S256x3072_1024_0)) B s3) (View.ld G (Rect.unit ![1024, 0] ![256, 256] inb_S2048x256_S256x256_1024_0)) (k0_pay71 (View.ld G (Rect.unit ![1024, 0] ![256, 256] inb_S2048x256_S256x256_1024_0)))) (k0_pay80 s0 (k0_pay34 H) (View.ld Y (Rect.unit ![1280, 0] ![256, 3072] inb_S2048x3072_S256x3072_1280_0)) B s3) (View.ld G (Rect.unit ![1280, 0] ![256, 256] inb_S2048x256_S256x256_1280_0))) (View.ld Y (Rect.unit ![1536, 0] ![256, 3072] inb_S2048x3072_S256x3072_1536_0)) B s3 (View.ld G (Rect.unit ![1536, 0] ![256, 256] inb_S2048x256_S256x256_1536_0))) (View.ld Y (Rect.unit ![1792, 0] ![256, 3072] inb_S2048x3072_S256x3072_1792_0)) B s3 (View.ld G (Rect.unit ![1792, 0] ![256, 256] inb_S2048x256_S256x256_1792_0)))

set_option maxHeartbeats 4000000 in
/-- The tiles of down projection codes are one array. -/
theorem L2_canon (s0 : Elt Ideal .f32) (H : Vec Ideal S1x256 .f32) (W : Vec Ideal S256x3072 .bf16) :
    View.canon (L2 s0 H W) = Backward.w2 s0 H W := by
  funext y
  unfold L2
  canon_tiles x h
  all_goals (open_payloads; pointwise [Backward.w2, Backward.q4]; blk_point)

set_option maxHeartbeats 4000000 in
/-- The tiles of gate gradient codes are one array. -/
theorem LDG_canon (s0 s1 s3 : Elt Ideal .f32) (H : Vec Ideal S1x256 .f32) (Y : Vec Ideal S2048x3072 .fp8e5m2)
    (B : Vec Ideal S256x3072 .fp8e4m3) (G U : Vec Ideal S2048x256 .f32) :
    View.canon (LDG s0 s1 s3 H Y B G U) = Backward.codes s1 (Backward.dg (Backward.dh s0 s3 H Y B) G U) := by
  funext y
  unfold LDG
  canon_tiles x h
  all_goals (open_payloads; pointwise [Backward.codes, Backward.dg, Backward.dh, Backward.q5]; blk_point)

set_option maxHeartbeats 4000000 in
/-- The tiles of up gradient codes are one array. -/
theorem LDU_canon (s0 s2 s3 : Elt Ideal .f32) (H : Vec Ideal S1x256 .f32) (Y : Vec Ideal S2048x3072 .fp8e5m2)
    (B : Vec Ideal S256x3072 .fp8e4m3) (G : Vec Ideal S2048x256 .f32) :
    View.canon (LDU s0 s2 s3 H Y B G) = Backward.codes s2 (Backward.du (Backward.dh s0 s3 H Y B) G) := by
  funext y
  unfold LDU
  canon_tiles x h
  all_goals (open_payloads; pointwise [Backward.codes, Backward.du, Backward.dh, Backward.q5]; blk_point)

/-- The largest size in the rows of tile `c` that fall into row group `x 0`. -/
def part (c : Fin 8) (D : Backward.Arr 2048 256) (x : S8x256.Idx) : EReal :=
  Finset.fold max (Ideal.ofBits FTy.f32 4286578688#32)
    (fun k : Fin 32 => FloatOps.absf (F := Ideal) (φ := .f32)
      (D (ix2 ⟨256 * c.val + (k.val * 8 + (x 0).val), by have := (x 0).isLt; have h : (x 0).val < 8 := this; omega⟩ (x 1))))
    Finset.univ

set_option maxHeartbeats 4000000 in
/-- The running maxima after a grid point: those before it, and the largest size in each group of rows. -/
theorem MG_eq (Z : Vec Ideal S8x256 .f32) (s0 s3 : Elt Ideal .f32) (H : Vec Ideal S1x256 .f32)
    (Y : Vec Ideal S2048x3072 .fp8e5m2) (B : Vec Ideal S256x3072 .fp8e4m3) (G U : Vec Ideal S2048x256 .f32) (x : S8x256.Idx) :
    MG Z s0 s3 H Y B G U x = max (max (max (max (max (max (max (max (Z x) (part 0 (Backward.dg (Backward.dh s0 s3 H Y B) G U) x)) (part 1 (Backward.dg (Backward.dh s0 s3 H Y B) G U) x)) (part 2 (Backward.dg (Backward.dh s0 s3 H Y B) G U) x))
      (part 3 (Backward.dg (Backward.dh s0 s3 H Y B) G U) x)) (part 4 (Backward.dg (Backward.dh s0 s3 H Y B) G U) x)) (part 5 (Backward.dg (Backward.dh s0 s3 H Y B) G U) x)) (part 6 (Backward.dg (Backward.dh s0 s3 H Y B) G U) x)) (part 7 (Backward.dg (Backward.dh s0 s3 H Y B) G U) x) := by
  unfold MG
  open_payloads
  pointwise [part, Backward.dg, Backward.dh]

set_option maxHeartbeats 4000000 in
/-- The running maxima after a grid point: those before it, and the largest size in each group of rows. -/
theorem MU_eq (Z : Vec Ideal S8x256 .f32) (s0 s3 : Elt Ideal .f32) (H : Vec Ideal S1x256 .f32)
    (Y : Vec Ideal S2048x3072 .fp8e5m2) (B : Vec Ideal S256x3072 .fp8e4m3) (G : Vec Ideal S2048x256 .f32) (x : S8x256.Idx) :
    MU Z s0 s3 H Y B G x = max (max (max (max (max (max (max (max (Z x) (part 0 (Backward.du (Backward.dh s0 s3 H Y B) G) x)) (part 1 (Backward.du (Backward.dh s0 s3 H Y B) G) x)) (part 2 (Backward.du (Backward.dh s0 s3 H Y B) G) x))
      (part 3 (Backward.du (Backward.dh s0 s3 H Y B) G) x)) (part 4 (Backward.du (Backward.dh s0 s3 H Y B) G) x)) (part 5 (Backward.du (Backward.dh s0 s3 H Y B) G) x)) (part 6 (Backward.du (Backward.dh s0 s3 H Y B) G) x)) (part 7 (Backward.du (Backward.dh s0 s3 H Y B) G) x) := by
  unfold MU
  open_payloads
  pointwise [part, Backward.du, Backward.dh]

/-- The rows in row group `x 0` have sizes at most `a` in column `x 1`. -/
def Below (D : Backward.Arr 2048 256) (x : S8x256.Idx) (a : EReal) : Prop :=
  Ideal.ofBits FTy.f32 4286578688#32 ≤ a
    ∧ ∀ s : Fin 2048, s.val % 8 = (x 0).val → FloatOps.absf (F := Ideal) (φ := .f32) (D (ix2 s (x 1))) ≤ a

/-- The eight tiles' maxima together, said of the rows. -/
theorem parts_le (D : Backward.Arr 2048 256) (x : S8x256.Idx) (a : EReal) :
    (∀ c : Fin 8, part c D x ≤ a) ↔ Below D x a := by
  have hx : (x 0).val < 8 := (x 0).isLt
  unfold part Below
  simp only [Finset.fold_max_le, Finset.mem_univ, true_imp_iff]
  constructor
  · intro h
    refine ⟨(h 0).1, fun s hs => ?_⟩
    have h1 := (h ⟨s.val / 256, by omega⟩).2 ⟨s.val % 256 / 8, by omega⟩
    have e : (⟨256 * (s.val / 256) + (s.val % 256 / 8 * 8 + (x 0).val), by omega⟩ : Fin 2048) = s := Fin.ext (by dsimp only; omega)
    rwa [e] at h1
  · intro h c
    refine ⟨h.1, fun k => h.2 _ ?_⟩
    dsimp only
    omega

/-- The running maxima after a grid point are at most `a`, said of the gradients' elements. -/
theorem MG_le (Z : Vec Ideal S8x256 .f32) (s0 s3 : Elt Ideal .f32) (H : Vec Ideal S1x256 .f32)
    (Y : Vec Ideal S2048x3072 .fp8e5m2) (B : Vec Ideal S256x3072 .fp8e4m3) (G U : Vec Ideal S2048x256 .f32)
    (x : S8x256.Idx) (a : EReal) :
    (show EReal from MG Z s0 s3 H Y B G U x) ≤ a ↔ (show EReal from Z x) ≤ a ∧ Below (Backward.dg (Backward.dh s0 s3 H Y B) G U) x a := by
  rw [← parts_le, MG_eq]
  simp only [max_le_iff, and_assoc, Fin.forall_fin_succ, Fin.isValue, IsEmpty.forall_iff, and_true]
  rfl

/-- The running maxima after a grid point are at most `a`, said of the gradients' elements. -/
theorem MU_le (Z : Vec Ideal S8x256 .f32) (s0 s3 : Elt Ideal .f32) (H : Vec Ideal S1x256 .f32)
    (Y : Vec Ideal S2048x3072 .fp8e5m2) (B : Vec Ideal S256x3072 .fp8e4m3) (G : Vec Ideal S2048x256 .f32)
    (x : S8x256.Idx) (a : EReal) :
    (show EReal from MU Z s0 s3 H Y B G x) ≤ a ↔ (show EReal from Z x) ≤ a ∧ Below (Backward.du (Backward.dh s0 s3 H Y B) G) x a := by
  rw [← parts_le, MU_eq]
  simp only [max_le_iff, and_assoc, Fin.forall_fin_succ, Fin.isValue, IsEmpty.forall_iff, and_true]
  rfl

/-- Reading the stored down projection codes back reads the array. -/
theorem L2_read {sp} (v : View sig .tc sp S256x3072 .fp8e4m3) (s0 : Elt Ideal .f32) (H : Vec Ideal S1x256 .f32)
    (W : Vec Ideal S256x3072 .bf16) :
    v.readCov (L2 s0 H W) (Rect.unit ![0, 0] ![256, 3072] inb_S256x3072_S256x3072_0_0).toLoadRect = Backward.w2 s0 H W := by
  rw [View.readCov_eq_canon', L2_canon]
  funext j
  exact congrArg (Backward.w2 s0 H W) (funext fun a => Fin.ext (by fin_cases a <;> exact (Nat.zero_add _).trans (Nat.one_mul _)))

/-- Reading the stored gate gradient codes back reads the array. -/
theorem LDG_read {sp} (v : View sig .tc sp S2048x256 .fp8e5m2) (s0 s1 s3 : Elt Ideal .f32) (H : Vec Ideal S1x256 .f32)
    (Y : Vec Ideal S2048x3072 .fp8e5m2) (B : Vec Ideal S256x3072 .fp8e4m3) (G U : Vec Ideal S2048x256 .f32) :
    v.readCov (LDG s0 s1 s3 H Y B G U) (Rect.unit ![0, 0] ![2048, 256] inb_S2048x256_S2048x256_0_0).toLoadRect
      = Backward.codes s1 (Backward.dg (Backward.dh s0 s3 H Y B) G U) := by
  rw [View.readCov_eq_canon', LDG_canon]
  funext j
  exact congrArg (Backward.codes s1 (Backward.dg (Backward.dh s0 s3 H Y B) G U)) (funext fun a => Fin.ext (by fin_cases a <;> exact (Nat.zero_add _).trans (Nat.one_mul _)))

/-- Reading the stored up gradient codes back reads the array. -/
theorem LDU_read {sp} (v : View sig .tc sp S2048x256 .fp8e5m2) (s0 s2 s3 : Elt Ideal .f32) (H : Vec Ideal S1x256 .f32)
    (Y : Vec Ideal S2048x3072 .fp8e5m2) (B : Vec Ideal S256x3072 .fp8e4m3) (G : Vec Ideal S2048x256 .f32) :
    v.readCov (LDU s0 s2 s3 H Y B G) (Rect.unit ![0, 0] ![2048, 256] inb_S2048x256_S2048x256_0_0).toLoadRect
      = Backward.codes s2 (Backward.du (Backward.dh s0 s3 H Y B) G) := by
  rw [View.readCov_eq_canon', LDU_canon]
  funext j
  exact congrArg (Backward.codes s2 (Backward.du (Backward.dh s0 s3 H Y B) G)) (funext fun a => Fin.ext (by fin_cases a <;> exact (Nat.zero_add _).trans (Nat.one_mul _)))

end Cert.BwdIdeal.Value

end
-- ==== Proof.BwdPoint.lean ====
module

public import proofs.«01_k».proof.Proof.Gen.BwdIdeal.Frame
public import proofs.«01_k».proof.Proof.Scal
public import proofs.«01_k».proof.Proof.BwdTiles
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # What each grid point of the backward kernel leaves in its output blocks -/

namespace Cert.BwdIdeal.Value

open Cert.BwdIdeal Cert.BwdIdeal.Gen

variable (m : (ℓ : Loc nD τ sig) → Buf (Elt Ideal) ℓ)

/-- Where each window's block lies at each grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ win0_8.index t = ![0, t.val]
    ∧ win0_9.index t = ![0, t.val]
    ∧ win0_10.index t = ![0, t.val]
    ∧ win0_11.index t = ![t.val, 0]
    ∧ win0_12.index t = ![0, t.val]
    ∧ win0_13.index t = ![0, t.val]
    ∧ win0_14.index t = ![0, t.val]
    ∧ win0_15.index t = ![0, t.val]
    ∧ win0_16.index t = ![0, 0]
    ∧ win0_17.index t = ![0, 0] :=
  (by decide +kernel : ∀ t : Fin grid0.N, _)

/-- Argument 0, a scalar. -/
abbrev a0 (c : Dev nD) : EReal := m ((c : Thread nD τ).loc main_arg0) (ix2 0 0)

/-- Argument 1, a scalar. -/
abbrev a1 (c : Dev nD) : EReal := m ((c : Thread nD τ).loc main_arg1) (fun a => a.elim0)

/-- Argument 2, a scalar. -/
abbrev a2 (c : Dev nD) : EReal := m ((c : Thread nD τ).loc main_arg2) (fun a => a.elim0)

/-- Argument 3, a scalar. -/
abbrev a3 (c : Dev nD) : EReal := m ((c : Thread nD τ).loc main_arg3) (fun a => a.elim0)

/-- Argument 4, a scalar. -/
abbrev a4 (c : Dev nD) : EReal := m ((c : Thread nD τ).loc main_arg4) (fun a => a.elim0)

/-- Argument 5. -/
abbrev a5 (c : Dev nD) : FVec Ideal S3072x2048 .fp8e4m3 := m ((c : Thread nD τ).loc main_arg5)

/-- Argument 6. -/
abbrev a6 (c : Dev nD) : FVec Ideal S2048x3072 .fp8e5m2 := m ((c : Thread nD τ).loc main_arg6)

/-- Argument 7. -/
abbrev a7 (c : Dev nD) : FVec Ideal S8192x3072 .bf16 := m ((c : Thread nD τ).loc main_arg7)

/-- Argument 8. -/
abbrev a8 (c : Dev nD) : FVec Ideal S1x8192 .f32 := m ((c : Thread nD τ).loc main_arg8)

/-- Argument 9. -/
abbrev a9 (c : Dev nD) : FVec Ideal S2048x8192 .f32 := m ((c : Thread nD τ).loc main_arg9)

/-- Argument 10. -/
abbrev a10 (c : Dev nD) : FVec Ideal S2048x8192 .f32 := m ((c : Thread nD τ).loc main_arg10)

/-- The gradient of the gate, whole. -/
abbrev gDG (c : Dev nD) : Backward.Arr 2048 8192 :=
  Backward.dg (Backward.dh (a0 m c) (a3 m c) (a8 m c) (a6 m c) (Backward.w2 (a0 m c) (a8 m c) (a7 m c))) (a9 m c) (a10 m c)

/-- The gradient of the up projection's output, whole. -/
abbrev gDU (c : Dev nD) : Backward.Arr 2048 8192 :=
  Backward.du (Backward.dh (a0 m c) (a3 m c) (a8 m c) (a6 m c) (Backward.w2 (a0 m c) (a8 m c) (a7 m c))) (a9 m c)

/-- The block of gate gradients at a grid point. -/
abbrev bDG (c : Dev nD) (t : Fin cfg0.N) : Backward.Arr 2048 256 :=
  Backward.dg (Backward.dh (a0 m c) (a3 m c) (iblk m c 8 t) (a6 m c) (Backward.w2 (a0 m c) (iblk m c 8 t) (iblk m c 7 t)))
    (iblk m c 9 t) (iblk m c 10 t)

/-- The block of up gradients at a grid point. -/
abbrev bDU (c : Dev nD) (t : Fin cfg0.N) : Backward.Arr 2048 256 :=
  Backward.du (Backward.dh (a0 m c) (a3 m c) (iblk m c 8 t) (a6 m c) (Backward.w2 (a0 m c) (iblk m c 8 t) (iblk m c 7 t)))
    (iblk m c 9 t)

theorem blk0 (c : Dev nD) (t : Fin cfg0.N) : (iblk m c 0 t : Vec Ideal S1x1 .f32) (ix2 0 0) = a0 m c := by
  unfold iblk
  rw [View.read_apply]
  exact congrArg (m ((c : Thread nD τ).loc main_arg0)) (Scal.one_eq _ _)

theorem blk1 (c : Dev nD) (t : Fin cfg0.N) : (iblk m c 1 t : Vec Ideal S1x1 .f32) (ix2 0 0) = a1 m c := by
  unfold iblk
  rw [View.read_apply]
  entry_read
  exact congrArg (m ((c : Thread nD τ).loc main_arg1)) (funext fun a => a.elim0)

theorem blk2 (c : Dev nD) (t : Fin cfg0.N) : (iblk m c 2 t : Vec Ideal S1x1 .f32) (ix2 0 0) = a2 m c := by
  unfold iblk
  rw [View.read_apply]
  entry_read
  exact congrArg (m ((c : Thread nD τ).loc main_arg2)) (funext fun a => a.elim0)

theorem blk3 (c : Dev nD) (t : Fin cfg0.N) : (iblk m c 3 t : Vec Ideal S1x1 .f32) (ix2 0 0) = a3 m c := by
  unfold iblk
  rw [View.read_apply]
  entry_read
  exact congrArg (m ((c : Thread nD τ).loc main_arg3)) (funext fun a => a.elim0)

theorem blk4 (c : Dev nD) (t : Fin cfg0.N) : (iblk m c 4 t : Vec Ideal S1x1 .f32) (ix2 0 0) = a4 m c := by
  unfold iblk
  rw [View.read_apply]
  entry_read
  exact congrArg (m ((c : Thread nD τ).loc main_arg4)) (funext fun a => a.elim0)

theorem blk5 (c : Dev nD) (t : Fin cfg0.N) : (iblk m c 5 t : Vec Ideal S3072x2048 .fp8e4m3) = a5 m c := by
  blk_ext! [iblk, V, idx t]

theorem blk6 (c : Dev nD) (t : Fin cfg0.N) : (iblk m c 6 t : Vec Ideal S2048x3072 .fp8e5m2) = a6 m c := by
  blk_ext! [iblk, V, idx t]

set_option maxHeartbeats 1000000 in
/-- A grid point leaves its block of the codes of the down projection. -/
theorem out11 (c : Dev nD) (t : Fin cfg0.N) : ((outsAt0 m c t.val t.isLt).1 : Vec Ideal S256x3072 .fp8e4m3)
    = Backward.w2 (a0 m c) (iblk m c 8 t) (iblk m c 7 t) := by
  by_cases h0 : t.val % 32 = 0
  · rw [outsAt0_A m c t h0 (by omega)]
    frame_out
    repeat rw [Scal.ld_one]
    simp only [blk0, blk1, blk2, blk3, blk4, blk5, blk6]
    exact L2_canon _ _ _
  by_cases h1 : t.val % 32 = 31
  · rw [outsAt0_C m c t h0 h1]
    frame_out
    repeat rw [Scal.ld_one]
    simp only [blk0, blk1, blk2, blk3, blk4, blk5, blk6]
    exact L2_canon _ _ _
  · rw [outsAt0_B m c t h0 h1]
    frame_out
    repeat rw [Scal.ld_one]
    simp only [blk0, blk1, blk2, blk3, blk4, blk5, blk6]
    exact L2_canon _ _ _

set_option maxHeartbeats 1000000 in
/-- A grid point leaves its block of the codes of the gate gradient. -/
theorem out12 (c : Dev nD) (t : Fin cfg0.N) : ((outsAt0 m c t.val t.isLt).2.1 : Vec Ideal S2048x256 .fp8e5m2)
    = Backward.codes (a1 m c) (bDG m c t) := by
  by_cases h0 : t.val % 32 = 0
  · rw [outsAt0_A m c t h0 (by omega)]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    exact LDG_canon (a0 m c) (a1 m c) (a3 m c) (iblk m c 8 t) (a6 m c) _ (iblk m c 9 t) (iblk m c 10 t)
  by_cases h1 : t.val % 32 = 31
  · rw [outsAt0_C m c t h0 h1]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    exact LDG_canon (a0 m c) (a1 m c) (a3 m c) (iblk m c 8 t) (a6 m c) _ (iblk m c 9 t) (iblk m c 10 t)
  · rw [outsAt0_B m c t h0 h1]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    exact LDG_canon (a0 m c) (a1 m c) (a3 m c) (iblk m c 8 t) (a6 m c) _ (iblk m c 9 t) (iblk m c 10 t)

set_option maxHeartbeats 1000000 in
/-- A grid point leaves its block of the codes of the up gradient. -/
theorem out13 (c : Dev nD) (t : Fin cfg0.N) : ((outsAt0 m c t.val t.isLt).2.2.1 : Vec Ideal S2048x256 .fp8e5m2)
    = Backward.codes (a2 m c) (bDU m c t) := by
  by_cases h0 : t.val % 32 = 0
  · rw [outsAt0_A m c t h0 (by omega)]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    exact LDU_canon (a0 m c) (a2 m c) (a3 m c) (iblk m c 8 t) (a6 m c) _ (iblk m c 9 t)
  by_cases h1 : t.val % 32 = 31
  · rw [outsAt0_C m c t h0 h1]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    exact LDU_canon (a0 m c) (a2 m c) (a3 m c) (iblk m c 8 t) (a6 m c) _ (iblk m c 9 t)
  · rw [outsAt0_B m c t h0 h1]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    exact LDU_canon (a0 m c) (a2 m c) (a3 m c) (iblk m c 8 t) (a6 m c) _ (iblk m c 9 t)

set_option maxHeartbeats 1000000 in
/-- A grid point leaves its block of the gate weight gradient. -/
theorem out14 (c : Dev nD) (t : Fin cfg0.N) : ((outsAt0 m c t.val t.isLt).2.2.2.1 : Vec Ideal S3072x256 .bf16)
    = Backward.dw (a5 m c) (Backward.codes (a1 m c) (bDG m c t)) (a4 m c * a1 m c) := by
  by_cases h0 : t.val % 32 = 0
  · rw [outsAt0_A m c t h0 (by omega)]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    have e' := LDG_read (ms0_12 t).view (a0 m c) (a1 m c) (a3 m c) (iblk m c 8 t) (a6 m c)
      (Backward.w2 (a0 m c) (iblk m c 8 t) (iblk m c 7 t)) (iblk m c 9 t) (iblk m c 10 t)
    unfold LDG at e'
    simp only [e']
    funext i
    pointwise [k0_pay109, Backward.dw]
  by_cases h1 : t.val % 32 = 31
  · rw [outsAt0_C m c t h0 h1]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    have e' := LDG_read (ms0_12 t).view (a0 m c) (a1 m c) (a3 m c) (iblk m c 8 t) (a6 m c)
      (Backward.w2 (a0 m c) (iblk m c 8 t) (iblk m c 7 t)) (iblk m c 9 t) (iblk m c 10 t)
    unfold LDG at e'
    simp only [e']
    funext i
    pointwise [k0_pay109, Backward.dw]
  · rw [outsAt0_B m c t h0 h1]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    have e' := LDG_read (ms0_12 t).view (a0 m c) (a1 m c) (a3 m c) (iblk m c 8 t) (a6 m c)
      (Backward.w2 (a0 m c) (iblk m c 8 t) (iblk m c 7 t)) (iblk m c 9 t) (iblk m c 10 t)
    unfold LDG at e'
    simp only [e']
    funext i
    pointwise [k0_pay109, Backward.dw]

set_option maxHeartbeats 1000000 in
/-- A grid point leaves its block of the up weight gradient. -/
theorem out15 (c : Dev nD) (t : Fin cfg0.N) : ((outsAt0 m c t.val t.isLt).2.2.2.2.1 : Vec Ideal S3072x256 .bf16)
    = Backward.dw (a5 m c) (Backward.codes (a2 m c) (bDU m c t)) (a4 m c * a2 m c) := by
  by_cases h0 : t.val % 32 = 0
  · rw [outsAt0_A m c t h0 (by omega)]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    have e' := LDU_read (ms0_13 t).view (a0 m c) (a2 m c) (a3 m c) (iblk m c 8 t) (a6 m c)
      (Backward.w2 (a0 m c) (iblk m c 8 t) (iblk m c 7 t)) (iblk m c 9 t)
    unfold LDU at e'
    simp only [e']
    funext i
    pointwise [k0_pay1, k0_pay110, Backward.dw]
  by_cases h1 : t.val % 32 = 31
  · rw [outsAt0_C m c t h0 h1]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    have e' := LDU_read (ms0_13 t).view (a0 m c) (a2 m c) (a3 m c) (iblk m c 8 t) (a6 m c)
      (Backward.w2 (a0 m c) (iblk m c 8 t) (iblk m c 7 t)) (iblk m c 9 t)
    unfold LDU at e'
    simp only [e']
    funext i
    pointwise [k0_pay1, k0_pay110, Backward.dw]
  · rw [outsAt0_B m c t h0 h1]
    frame_out
    repeat rw [Scal.ld_one]
    simp only [blk0, blk1, blk2, blk3, blk4, blk5, blk6]
    have e := L2_read (ms0_11 t).view (a0 m c) (iblk m c 8 t) (iblk m c 7 t)
    unfold L2 at e
    simp only [e]
    have e' := LDU_read (ms0_13 t).view (a0 m c) (a2 m c) (a3 m c) (iblk m c 8 t) (a6 m c)
      (Backward.w2 (a0 m c) (iblk m c 8 t) (iblk m c 7 t)) (iblk m c 9 t)
    unfold LDU at e'
    simp only [e']
    funext i
    pointwise [k0_pay1, k0_pay110, Backward.dw]

end Cert.BwdIdeal.Value

end
-- ==== Proof.BwdValue.lean ====
module

public import proofs.«01_k».proof.Proof.Gen.BwdIdeal.Frame
public import proofs.«01_k».proof.Proof.Scal
public import proofs.«01_k».proof.Proof.BwdPoint
public import proofs.«01_k».proof.Proof.Local
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The results of the backward kernel -/

namespace Cert.BwdIdeal.Value

open Cert.BwdIdeal Cert.BwdIdeal.Gen

variable (m : (ℓ : Loc nD τ sig) → Buf (Elt Ideal) ℓ)

/-- The hidden columns of a grid point. -/
def col (t : Fin cfg0.N) (j : Fin 256) : Fin 8192 :=
  ⟨t.val * 256 + j.val, by have h : t.val < 32 := t.isLt; omega⟩

theorem blk7 (c : Dev nD) (t : Fin cfg0.N) : (iblk m c 7 t : Vec Ideal S256x3072 .bf16) = Backward.rows (col t) (a7 m c) := by
  funext i
  unfold Backward.rows
  blk_ext [iblk, V, idx t, col]

theorem blk8 (c : Dev nD) (t : Fin cfg0.N) : (iblk m c 8 t : Vec Ideal S1x256 .f32) = Backward.cols (col t) (a8 m c) := by
  funext i
  unfold Backward.cols
  blk_ext [iblk, V, idx t, col]

theorem blk9 (c : Dev nD) (t : Fin cfg0.N) : (iblk m c 9 t : Vec Ideal S2048x256 .f32) = Backward.cols (col t) (a9 m c) := by
  funext i
  unfold Backward.cols
  blk_ext [iblk, V, idx t, col]

theorem blk10 (c : Dev nD) (t : Fin cfg0.N) : (iblk m c 10 t : Vec Ideal S2048x256 .f32) = Backward.cols (col t) (a10 m c) := by
  funext i
  unfold Backward.cols
  blk_ext [iblk, V, idx t, col]

/-- The codes of the down projection, whole. -/
abbrev gW2 (c : Dev nD) : Backward.Arr 8192 3072 := Backward.w2 (a0 m c) (a8 m c) (a7 m c)

theorem bW2_eq (c : Dev nD) (t : Fin cfg0.N) :
    Backward.w2 (a0 m c) (iblk m c 8 t) (iblk m c 7 t) = Backward.rows (col t) (gW2 m c) := by
  rw [blk7, blk8, Backward.w2_rows]

theorem bDG_eq (c : Dev nD) (t : Fin cfg0.N) : bDG m c t = Backward.cols (col t) (gDG m c) := by
  unfold bDG
  rw [bW2_eq, blk8, blk9, blk10, Backward.dh_cols, Backward.dg_cols]

theorem bDU_eq (c : Dev nD) (t : Fin cfg0.N) : bDU m c t = Backward.cols (col t) (gDU m c) := by
  unfold bDU
  rw [bW2_eq, blk8, blk9, Backward.dh_cols, Backward.du_cols]

/-- The kernel's result: the codes of the down projection. -/
theorem final11 (c : Dev nD) : (dats m 0 c).arrAt 11 (cfgs 0).N = (Backward.w2 (a0 m c) (a8 m c) (a7 m c) : Vec Ideal S8192x3072 .fp8e4m3) := by
  refine (dats m 0 c).arrAt_eq_of_covers 11 _ (by decide +kernel) fun t _ y => ?_
  blk_simp
  rw [after0_11, out11, bW2_eq, Backward.rows]
  refine congrArg _ ?_
  blk_ext [idx t, col]

/-- The kernel's result: the codes of the gate gradient. -/
theorem final12 (c : Dev nD) : (dats m 0 c).arrAt 12 (cfgs 0).N = (Backward.codes (a1 m c) (gDG m c) : Vec Ideal S2048x8192 .fp8e5m2) := by
  refine (dats m 0 c).arrAt_eq_of_covers 12 _ (by decide +kernel) fun t _ y => ?_
  blk_simp
  rw [after0_12, out12, bDG_eq, Backward.codes_cols, Backward.cols]
  refine congrArg _ ?_
  blk_ext [idx t, col]

/-- The kernel's result: the codes of the up gradient. -/
theorem final13 (c : Dev nD) : (dats m 0 c).arrAt 13 (cfgs 0).N = (Backward.codes (a2 m c) (gDU m c) : Vec Ideal S2048x8192 .fp8e5m2) := by
  refine (dats m 0 c).arrAt_eq_of_covers 13 _ (by decide +kernel) fun t _ y => ?_
  blk_simp
  rw [after0_13, out13, bDU_eq, Backward.codes_cols, Backward.cols]
  refine congrArg _ ?_
  blk_ext [idx t, col]

/-- The kernel's result: the gate weight gradient. -/
theorem final14 (c : Dev nD) : (dats m 0 c).arrAt 14 (cfgs 0).N = (Backward.dw (a5 m c) (Backward.codes (a1 m c) (gDG m c)) (a4 m c * a1 m c) : Vec Ideal S3072x8192 .bf16) := by
  refine (dats m 0 c).arrAt_eq_of_covers 14 _ (by decide +kernel) fun t _ y => ?_
  blk_simp
  rw [after0_14, out14, bDG_eq, Backward.codes_cols, Backward.dw_cols, Backward.cols]
  refine congrArg _ ?_
  blk_ext [idx t, col]

/-- The kernel's result: the up weight gradient. -/
theorem final15 (c : Dev nD) : (dats m 0 c).arrAt 15 (cfgs 0).N = (Backward.dw (a5 m c) (Backward.codes (a2 m c) (gDU m c)) (a4 m c * a2 m c) : Vec Ideal S3072x8192 .bf16) := by
  refine (dats m 0 c).arrAt_eq_of_covers 15 _ (by decide +kernel) fun t _ y => ?_
  blk_simp
  rw [after0_15, out15, bDU_eq, Backward.codes_cols, Backward.dw_cols, Backward.cols]
  refine congrArg _ ?_
  blk_ext [idx t, col]

end Cert.BwdIdeal.Value

end
-- ==== Proof.BwdRun.lean ====
module

public import proofs.«01_k».proof.Proof.Gen.BwdIdeal.Frame
public import proofs.«01_k».proof.Proof.Scal
public import proofs.«01_k».proof.Proof.BwdPoint
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The running maxima of the backward kernel -/

namespace Cert.BwdIdeal.Value

open Cert.BwdIdeal Cert.BwdIdeal.Gen

variable (m : (ℓ : Loc nD τ sig) → Buf (Elt Ideal) ℓ)

set_option maxHeartbeats 1000000 in
/-- The running maxima the first grid point leaves. -/
theorem runG_first (c : Dev nD) (t : Fin cfg0.N) (h0 : t.val % 32 = 0) : ((outsAt0 m c t.val t.isLt).2.2.2.2.2.2.2.1 : Vec Ideal S8x256 .f32)
    = MG (k0_pay4 (F := Ideal)) (a0 m c) (a3 m c) (iblk m c 8 t) (a6 m c) (Backward.w2 (a0 m c) (iblk m c 8 t) (iblk m c 7 t)) (iblk m c 9 t) (iblk m c 10 t) := by
    rw [outsAt0_A m c t h0 (by omega)]
    frame_out
    repeat rw [Scal.ld_one]
    simp only [blk0, blk1, blk2, blk3, blk4, blk5, blk6, read_unread_whole]
    have e := L2_read (ms0_11 t).view (a0 m c) (iblk m c 8 t) (iblk m c 7 t)
    unfold L2 at e
    simp only [e]
    rfl

set_option maxHeartbeats 1000000 in
/-- The running maxima a later grid point leaves. -/
theorem runG_next (c : Dev nD) (t : Fin cfg0.N) (h0 : ¬ t.val % 32 = 0) : ((outsAt0 m c t.val t.isLt).2.2.2.2.2.2.2.1 : Vec Ideal S8x256 .f32)
    = MG (outsAt0 m c (t.val - 1) (by omega)).2.2.2.2.2.2.2.1 (a0 m c) (a3 m c) (iblk m c 8 t) (a6 m c) (Backward.w2 (a0 m c) (iblk m c 8 t) (iblk m c 7 t)) (iblk m c 9 t) (iblk m c 10 t) := by
  by_cases h1 : t.val % 32 = 31
  · rw [outsAt0_C m c t h0 h1]
    frame_out
    repeat rw [Scal.ld_one]
    simp only [blk0, blk1, blk2, blk3, blk4, blk5, blk6, read_unread_whole]
    have e := L2_read (ms0_11 t).view (a0 m c) (iblk m c 8 t) (iblk m c 7 t)
    unfold L2 at e
    simp only [e]
    rfl
  · rw [outsAt0_B m c t h0 h1]
    frame_out
    repeat rw [Scal.ld_one]
    simp only [blk0, blk1, blk2, blk3, blk4, blk5, blk6, read_unread_whole]
    have e := L2_read (ms0_11 t).view (a0 m c) (iblk m c 8 t) (iblk m c 7 t)
    unfold L2 at e
    simp only [e]
    rfl

set_option maxHeartbeats 1000000 in
/-- The last grid point's result is the maximum of the running maxima it leaves. -/
theorem out16 (c : Dev nD) (t : Fin cfg0.N) (h1 : t.val % 32 = 31) : ((outsAt0 m c t.val t.isLt).2.2.2.2.2.1 : Vec Ideal S1x1 .f32)
    = fun _ => k0_pay2 (outsAt0 m c t.val t.isLt).2.2.2.2.2.2.2.1 := by
  rw [outsAt0_C m c t (by omega) h1]
  frame_out
  rfl

set_option maxHeartbeats 1000000 in
/-- The running maxima the first grid point leaves. -/
theorem runU_first (c : Dev nD) (t : Fin cfg0.N) (h0 : t.val % 32 = 0) : ((outsAt0 m c t.val t.isLt).2.2.2.2.2.2.2.2 : Vec Ideal S8x256 .f32)
    = MU (k0_pay5 (F := Ideal)) (a0 m c) (a3 m c) (iblk m c 8 t) (a6 m c) (Backward.w2 (a0 m c) (iblk m c 8 t) (iblk m c 7 t)) (iblk m c 9 t) := by
    rw [outsAt0_A m c t h0 (by omega)]
    frame_out
    repeat rw [Scal.ld_one]
    simp only [blk0, blk1, blk2, blk3, blk4, blk5, blk6, read_unread_whole]
    have e := L2_read (ms0_11 t).view (a0 m c) (iblk m c 8 t) (iblk m c 7 t)
    unfold L2 at e
    simp only [e]
    rfl

set_option maxHeartbeats 1000000 in
/-- The running maxima a later grid point leaves. -/
theorem runU_next (c : Dev nD) (t : Fin cfg0.N) (h0 : ¬ t.val % 32 = 0) : ((outsAt0 m c t.val t.isLt).2.2.2.2.2.2.2.2 : Vec Ideal S8x256 .f32)
    = MU (outsAt0 m c (t.val - 1) (by omega)).2.2.2.2.2.2.2.2 (a0 m c) (a3 m c) (iblk m c 8 t) (a6 m c) (Backward.w2 (a0 m c) (iblk m c 8 t) (iblk m c 7 t)) (iblk m c 9 t) := by
  by_cases h1 : t.val % 32 = 31
  · rw [outsAt0_C m c t h0 h1]
    frame_out
    repeat rw [Scal.ld_one]
    simp only [blk0, blk1, blk2, blk3, blk4, blk5, blk6, read_unread_whole]
    have e := L2_read (ms0_11 t).view (a0 m c) (iblk m c 8 t) (iblk m c 7 t)
    unfold L2 at e
    simp only [e]
    rfl
  · rw [outsAt0_B m c t h0 h1]
    frame_out
    repeat rw [Scal.ld_one]
    simp only [blk0, blk1, blk2, blk3, blk4, blk5, blk6, read_unread_whole]
    have e := L2_read (ms0_11 t).view (a0 m c) (iblk m c 8 t) (iblk m c 7 t)
    unfold L2 at e
    simp only [e]
    rfl

set_option maxHeartbeats 1000000 in
/-- The last grid point's result is the maximum of the running maxima it leaves. -/
theorem out17 (c : Dev nD) (t : Fin cfg0.N) (h1 : t.val % 32 = 31) : ((outsAt0 m c t.val t.isLt).2.2.2.2.2.2.1 : Vec Ideal S1x1 .f32)
    = fun _ => k0_pay3 (outsAt0 m c t.val t.isLt).2.2.2.2.2.2.2.2 := by
  rw [outsAt0_C m c t (by omega) h1]
  frame_out
  rfl

end Cert.BwdIdeal.Value

end
-- ==== Proof.BwdMax.lean ====
module

public import proofs.«01_k».proof.Proof.Gen.BwdIdeal.Frame
public import proofs.«01_k».proof.Proof.Scal
public import proofs.«01_k».proof.Proof.BwdRun
public import proofs.«01_k».proof.Proof.BwdValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The largest sizes the backward kernel returns -/

namespace Cert.BwdIdeal.Value

open Cert.BwdIdeal Cert.BwdIdeal.Gen

variable (m : (ℓ : Loc nD τ sig) → Buf (Elt Ideal) ℓ)

/-- The columns of the grid points are all the hidden columns. -/
theorem col_surj (f : Fin 8192) : ∃ (t : Fin cfg0.N) (j : Fin 256), col t j = f :=
  ⟨⟨f.val / 256, show f.val / 256 < 32 by omega⟩, ⟨f.val % 256, by omega⟩, Fin.ext (by dsimp only [col]; omega)⟩

/-- A bound on the largest size bounds every element. -/
theorem amax_le {r n : ℕ} (A : Backward.Arr r n) (a : EReal) : Backward.amax A ≤ a ↔
    Ideal.ofBits FTy.f32 4286578688#32 ≤ a ∧ ∀ s j, FloatOps.absf (F := Ideal) (φ := .f32) (A (ix2 s j)) ≤ a := by
  unfold Backward.amax
  rw [Finset.fold_max_le]
  simp only [Finset.mem_univ, forall_const, Prod.forall]

theorem absf_nonneg (v : EReal) : 0 ≤ FloatOps.absf (F := Ideal) (φ := .f32) v := by
  show 0 ≤ max v (-v)
  rcases le_total 0 v with h | h
  · exact le_max_of_le_left h
  · exact le_max_of_le_right (EReal.neg_nonneg.mpr h)

theorem zeroG (x : S8x256.Idx) : (show EReal from k0_pay4 (F := Ideal) x) = 0 := by
  pointwise [k0_pay4]

/-- What bounds the running maxima of the gate gradient after grid point `n`. -/
theorem runG_le (c : Dev nD) (x : S8x256.Idx) (a : EReal) : ∀ (n : ℕ) (hn : n < cfg0.N),
    (show EReal from (outsAt0 m c n hn).2.2.2.2.2.2.2.1 x) ≤ a ↔
      0 ≤ a ∧ ∀ (k : ℕ) (hk : k ≤ n), Below (bDG m c ⟨k, lt_of_le_of_lt hk hn⟩) x a
  | 0, hn => by
    rw [runG_first m c ⟨0, hn⟩ rfl, MG_le, zeroG]
    constructor
    · rintro ⟨h, h'⟩
      exact ⟨h, fun k hk => by obtain rfl : k = 0 := by omega
                               exact h'⟩
    · rintro ⟨h, h'⟩
      exact ⟨h, h' 0 le_rfl⟩
  | n + 1, hn => by
    have hn' : n + 1 < 32 := hn
    rw [runG_next m c ⟨n + 1, hn⟩ (by dsimp only; omega), MG_le]
    have ih := runG_le c x a n (by omega)
    constructor
    · rintro ⟨h, h'⟩
      obtain ⟨i1, i2⟩ := ih.mp h
      refine ⟨i1, fun k hk => ?_⟩
      by_cases e : k = n + 1
      · subst e
        exact h'
      · exact i2 k (by omega)
    · rintro ⟨h, h'⟩
      exact ⟨ih.mpr ⟨h, fun k hk => h' k (by omega)⟩, h' (n + 1) le_rfl⟩

theorem foldG (Z : Vec Ideal S8x256 .f32) (a : EReal) : (show EReal from k0_pay2 Z) ≤ a ↔
    Ideal.ofBits FTy.f32 4286578688#32 ≤ a ∧ ∀ x : Fin 8 × Fin 256, (show EReal from Z (ix2 x.1 x.2)) ≤ a := by
  have e : (show EReal from k0_pay2 Z) = Finset.fold max (Ideal.ofBits FTy.f32 4286578688#32)
      (fun x : Fin 8 × Fin 256 => (show EReal from Z (ix2 x.1 x.2))) Finset.univ := by
    pointwise [k0_pay2]
  rw [e, Finset.fold_max_le]
  simp only [Finset.mem_univ, forall_const]

/-- The kernel's result: the largest size of the gate gradient. -/
theorem final16 (c : Dev nD) : (dats m 0 c).arrAt 16 (cfgs 0).N = (fun _ => Backward.amax (gDG m c) : Vec Ideal S1x1 .f32) := by
  refine (dats m 0 c).arrAt_eq_of_covers 16 _ (by decide +kernel) fun t hf y => ?_
  have ht : t.val % 32 = 31 := (flush0_16 t).mp hf
  have hl : t.val < 32 := t.isLt
  blk_simp
  rw [after0_16, out16 m c t ht]
  refine eq_of_forall_ge_iff (α := EReal) fun a => ?_
  refine (foldG _ a).trans ?_
  rw [amax_le]
  constructor
  · rintro ⟨h, h'⟩
    refine ⟨h, fun s f => ?_⟩
    obtain ⟨k, j, rfl⟩ := col_surj f
    have hk : k.val < 32 := k.isLt
    have b := ((runG_le m c _ a t.val t.isLt).mp (h' (⟨s.val % 8, by omega⟩, j))).2 k.val (by omega)
    have b' := b.2 s rfl
    rw [bDG_eq] at b'
    exact b'
  · rintro ⟨h, h'⟩
    refine ⟨h, fun x => (runG_le m c _ a t.val t.isLt).mpr ⟨(absf_nonneg _).trans (h' 0 0), fun k hk => ⟨h, fun s _ => ?_⟩⟩⟩
    rw [bDG_eq]
    exact h' s _

theorem zeroU (x : S8x256.Idx) : (show EReal from k0_pay5 (F := Ideal) x) = 0 := by
  pointwise [k0_pay5]

/-- What bounds the running maxima of the up gradient after grid point `n`. -/
theorem runU_le (c : Dev nD) (x : S8x256.Idx) (a : EReal) : ∀ (n : ℕ) (hn : n < cfg0.N),
    (show EReal from (outsAt0 m c n hn).2.2.2.2.2.2.2.2 x) ≤ a ↔
      0 ≤ a ∧ ∀ (k : ℕ) (hk : k ≤ n), Below (bDU m c ⟨k, lt_of_le_of_lt hk hn⟩) x a
  | 0, hn => by
    rw [runU_first m c ⟨0, hn⟩ rfl, MU_le, zeroU]
    constructor
    · rintro ⟨h, h'⟩
      exact ⟨h, fun k hk => by obtain rfl : k = 0 := by omega
                               exact h'⟩
    · rintro ⟨h, h'⟩
      exact ⟨h, h' 0 le_rfl⟩
  | n + 1, hn => by
    have hn' : n + 1 < 32 := hn
    rw [runU_next m c ⟨n + 1, hn⟩ (by dsimp only; omega), MU_le]
    have ih := runU_le c x a n (by omega)
    constructor
    · rintro ⟨h, h'⟩
      obtain ⟨i1, i2⟩ := ih.mp h
      refine ⟨i1, fun k hk => ?_⟩
      by_cases e : k = n + 1
      · subst e
        exact h'
      · exact i2 k (by omega)
    · rintro ⟨h, h'⟩
      exact ⟨ih.mpr ⟨h, fun k hk => h' k (by omega)⟩, h' (n + 1) le_rfl⟩

theorem foldU (Z : Vec Ideal S8x256 .f32) (a : EReal) : (show EReal from k0_pay3 Z) ≤ a ↔
    Ideal.ofBits FTy.f32 4286578688#32 ≤ a ∧ ∀ x : Fin 8 × Fin 256, (show EReal from Z (ix2 x.1 x.2)) ≤ a := by
  have e : (show EReal from k0_pay3 Z) = Finset.fold max (Ideal.ofBits FTy.f32 4286578688#32)
      (fun x : Fin 8 × Fin 256 => (show EReal from Z (ix2 x.1 x.2))) Finset.univ := by
    pointwise [k0_pay3]
  rw [e, Finset.fold_max_le]
  simp only [Finset.mem_univ, forall_const]

/-- The kernel's result: the largest size of the up gradient. -/
theorem final17 (c : Dev nD) : (dats m 0 c).arrAt 17 (cfgs 0).N = (fun _ => Backward.amax (gDU m c) : Vec Ideal S1x1 .f32) := by
  refine (dats m 0 c).arrAt_eq_of_covers 17 _ (by decide +kernel) fun t hf y => ?_
  have ht : t.val % 32 = 31 := (flush0_17 t).mp hf
  have hl : t.val < 32 := t.isLt
  blk_simp
  rw [after0_17, out17 m c t ht]
  refine eq_of_forall_ge_iff (α := EReal) fun a => ?_
  refine (foldU _ a).trans ?_
  rw [amax_le]
  constructor
  · rintro ⟨h, h'⟩
    refine ⟨h, fun s f => ?_⟩
    obtain ⟨k, j, rfl⟩ := col_surj f
    have hk : k.val < 32 := k.isLt
    have b := ((runU_le m c _ a t.val t.isLt).mp (h' (⟨s.val % 8, by omega⟩, j))).2 k.val (by omega)
    have b' := b.2 s rfl
    rw [bDU_eq] at b'
    exact b'
  · rintro ⟨h, h'⟩
    refine ⟨h, fun x => (runU_le m c _ a t.val t.isLt).mpr ⟨(absf_nonneg _).trans (h' 0 0), fun k hk => ⟨h, fun s _ => ?_⟩⟩⟩
    rw [bDU_eq]
    exact h' s _

end Cert.BwdIdeal.Value

end
-- ==== Proof.BwdClaim.lean ====
module

public import proofs.«01_k».proof.Defs
public import proofs.«01_k».proof.Proof.BwdRef
public import proofs.«01_k».proof.Proof.BwdValue
public import proofs.«01_k».proof.Proof.BwdMax
public import Idealize.ShloMosaic.Lib.Claim

@[expose] public section

noncomputable section

open Idealize.ShloMosaic Idealize.SL.Sem

/-! # The runs of the kernel and of the reference of the backward call, and their equality -/

namespace Cert.BwdIdeal.Value

open Cert.BwdIdeal.Gen

/-- What the run of the kernel leaves: its results, and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = (Backward.w2 (a0 m c) (a8 m c) (a7 m c)) ∧
      r.2.mem ((c.tc : Thread nD τ).loc main_v4_1) = (Backward.codes (a1 m c) (gDG m c)) ∧
      r.2.mem ((c.tc : Thread nD τ).loc main_v4_2) = (Backward.codes (a2 m c) (gDU m c)) ∧
      r.2.mem ((c.tc : Thread nD τ).loc main_v4_3) = (Backward.dw (a5 m c) (Backward.codes (a1 m c) (gDG m c)) (a4 m c * a1 m c)) ∧
      r.2.mem ((c.tc : Thread nD τ).loc main_v4_4) = (Backward.dw (a5 m c) (Backward.codes (a2 m c) (gDU m c)) (a4 m c * a2 m c)) ∧
      r.2.mem ((c.tc : Thread nD τ).loc main_v4_5) = (fun _ => Backward.amax (gDG m c) : Vec Ideal S1x1 .f32) ∧
      r.2.mem ((c.tc : Thread nD τ).loc main_v4_6) = (fun _ => Backward.amax (gDU m c) : Vec Ideal S1x1 .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10)) :=
  θ_run_mono (θ_run_and (run_main m g) (unchanged m g)) fun _ hr c =>
    ⟨((hr.1 c).1 11).trans (final11 m c),
      ((hr.1 c).1 12).trans (final12 m c),
      ((hr.1 c).1 13).trans (final13 m c),
      ((hr.1 c).1 14).trans (final14 m c),
      ((hr.1 c).1 15).trans (final15 m c),
      ((hr.1 c).1 16).trans (final16 m c),
      ((hr.1 c).1 17).trans (final17 m c), hr.2 c⟩

end Cert.BwdIdeal.Value

namespace Cert.RBwdIdeal.Value

open Cert.RBwdIdeal.Gen

/-- What the run of the reference leaves: its results, and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = (Backward.w2 (a0 m c) (a8 m c) (a7 m c)) ∧
      r.2.mem ((c.tc : Thread nD τ).loc main_v4_1) = (Backward.codes (a1 m c) (gDG m c)) ∧
      r.2.mem ((c.tc : Thread nD τ).loc main_v4_2) = (Backward.codes (a2 m c) (gDU m c)) ∧
      r.2.mem ((c.tc : Thread nD τ).loc main_v4_3) = (Backward.dw (a5 m c) (Backward.codes (a1 m c) (gDG m c)) (a4 m c * a1 m c)) ∧
      r.2.mem ((c.tc : Thread nD τ).loc main_v4_4) = (Backward.dw (a5 m c) (Backward.codes (a2 m c) (gDU m c)) (a4 m c * a2 m c)) ∧
      r.2.mem ((c.tc : Thread nD τ).loc main_v4_5) = (fun _ => Backward.amax (gDG m c) : Vec Ideal S1x1 .f32) ∧
      r.2.mem ((c.tc : Thread nD τ).loc main_v4_6) = (fun _ => Backward.amax (gDU m c) : Vec Ideal S1x1 .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10)) :=
  θ_run_mono (θ_run_and (run_main m g) (unchanged m g)) fun _ hr c =>
    ⟨((hr.1 c).1 11).trans (final11 m c),
      ((hr.1 c).1 12).trans (final12 m c),
      ((hr.1 c).1 13).trans (final13 m c),
      ((hr.1 c).1 14).trans (final14 m c),
      ((hr.1 c).1 15).trans (final15 m c),
      ((hr.1 c).1 16).trans (final16 m c),
      ((hr.1 c).1 17).trans (final17 m c), hr.2 c⟩

end Cert.RBwdIdeal.Value

namespace Cert.Bwd

/-- The kernel and the reference give the same results from the same arguments. -/
theorem algebraic : algebraic_BwdIdeal_RBwdIdeal (hBwdIdeal := Cert.BwdIdeal.Gen.facts) (hRBwdIdeal := Cert.RBwdIdeal.Gen.facts) := by
  intro m g m' g' _ hagree
  refine ⟨_, _, _, _, _, _, _, Cert.BwdIdeal.Value.run m g, θ_run_mono (Cert.RBwdIdeal.Value.run m' g') fun r hr c => ?_⟩
  obtain ⟨r11, r12, r13, r14, r15, r16, r17, hargs⟩ := hr c
  obtain ⟨h0, h1, h2, h3, h4, h5, h6, h7, h8, h9, h10⟩ := hagree c
  have e0 : Cert.RBwdIdeal.Value.a0 m' c = Cert.BwdIdeal.Value.a0 m c := congrFun h0 _
  have e1 : Cert.RBwdIdeal.Value.a1 m' c = Cert.BwdIdeal.Value.a1 m c := congrFun h1 _
  have e2 : Cert.RBwdIdeal.Value.a2 m' c = Cert.BwdIdeal.Value.a2 m c := congrFun h2 _
  have e3 : Cert.RBwdIdeal.Value.a3 m' c = Cert.BwdIdeal.Value.a3 m c := congrFun h3 _
  have e4 : Cert.RBwdIdeal.Value.a4 m' c = Cert.BwdIdeal.Value.a4 m c := congrFun h4 _
  have e5 : Cert.RBwdIdeal.Value.a5 m' c = Cert.BwdIdeal.Value.a5 m c := h5
  have e6 : Cert.RBwdIdeal.Value.a6 m' c = Cert.BwdIdeal.Value.a6 m c := h6
  have e7 : Cert.RBwdIdeal.Value.a7 m' c = Cert.BwdIdeal.Value.a7 m c := h7
  have e8 : Cert.RBwdIdeal.Value.a8 m' c = Cert.BwdIdeal.Value.a8 m c := h8
  have e9 : Cert.RBwdIdeal.Value.a9 m' c = Cert.BwdIdeal.Value.a9 m c := h9
  have e10 : Cert.RBwdIdeal.Value.a10 m' c = Cert.BwdIdeal.Value.a10 m c := h10
  refine ⟨r11.trans ?_, r12.trans ?_, r13.trans ?_, r14.trans ?_, r15.trans ?_, r16.trans ?_, r17.trans ?_, hargs⟩
  all_goals simp only [Cert.BwdIdeal.Value.gDG, Cert.BwdIdeal.Value.gDU, Cert.RBwdIdeal.Value.gDG, Cert.RBwdIdeal.Value.gDU, e0, e1, e2, e3, e4, e5, e6, e7, e8, e9, e10]

end Cert.Bwd

end
-- ==== Proof.Norm.lean ====
module

public import proofs.«01_k».proof.Proof.NormBack

@[expose] public section

noncomputable section

open Idealize.ShloMosaic

/-! # The normalised input and its codes, element by element -/

namespace Cert.Norm

open Backward (Arr rows q4)

variable {r N : ℕ}

/-- The normalised input times the learned scale. -/
def xn (X : Arr r 3072) (g : Arr 1 3072) : Arr r 3072 := NormBack.dxh (NormBack.xhat X) g

/-- The codes of an array under a scale, in the format with 4 exponent bits. -/
def codes (s : EReal) (A : Arr r 3072) : Arr r 3072 := fun i => q4 (Ideal.div (A i) s)

/-- An array with its two axes exchanged. -/
def swap {n : ℕ} (A : Arr r n) : Arr n r := fun i => A (ix2 (i 1) (i 0))

theorem xn_rows (f : Fin r → Fin N) (X : Arr N 3072) (g : Arr 1 3072) : xn (rows f X) g = rows f (xn X g) := rfl

theorem codes_rows (f : Fin r → Fin N) (s : EReal) (A : Arr N 3072) : codes s (rows f A) = rows f (codes s A) := rfl

theorem codes5_rows (f : Fin r → Fin N) (s : EReal) (A : Arr N 3072) :
    Backward.codes s (rows f A) = rows f (Backward.codes s A) := rfl

theorem swap_rows (f : Fin r → Fin N) (A : Arr N 3072) : swap (rows f A) = Backward.cols f (swap A) := rfl

end Cert.Norm

end
-- ==== Proof.PrepTiles.lean ====
module

public import proofs.«01_k».proof.Proof.Gen.PrepIdeal.Frame
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # What one row block of the preparation adds to the running maxima -/

namespace Cert.PrepIdeal.Value

open Cert.PrepIdeal Cert.PrepIdeal.Gen

/-- The largest size in column group `c` of a block, in the rows of row group `x 0`. -/
def chunk (c : Fin 24) (A : Backward.Arr 256 3072) (x : S8x128.Idx) : EReal :=
  Finset.fold max (Ideal.ofBits FTy.f32 4286578688#32)
    (fun k : Fin 32 => FloatOps.absf (F := Ideal) (φ := .f32)
      (A (ix2 ⟨k.val * 8 + (x 0).val, by have h : (x 0).val < 8 := (x 0).isLt; omega⟩
        ⟨128 * c.val + (x 1).val, by have h : (x 1).val < 128 := (x 1).isLt; omega⟩)))
    Finset.univ

set_option maxHeartbeats 4000000 in
/-- The running maxima after a grid point: those before it, and the largest size in each group of rows and columns. -/
theorem step_eq (A : Backward.Arr 256 3072) (y : Vec Ideal S8x128 .f32) (x : S8x128.Idx) :
    (show EReal from k0_pay9 (A : FVec Ideal S256x3072 .f32) y x) = max (y x)
      (max (max (max (max (max (max (max (max (max (max (max (max (max (max (max (max (max (max (max (max (max (max (max (chunk 0 A x) (chunk 1 A x)) (chunk 2 A x)) (chunk 3 A x)) (chunk 4 A x)) (chunk 5 A x)) (chunk 6 A x)) (chunk 7 A x)) (chunk 8 A x)) (chunk 9 A x)) (chunk 10 A x)) (chunk 11 A x)) (chunk 12 A x)) (chunk 13 A x)) (chunk 14 A x)) (chunk 15 A x)) (chunk 16 A x)) (chunk 17 A x)) (chunk 18 A x)) (chunk 19 A x)) (chunk 20 A x)) (chunk 21 A x)) (chunk 22 A x)) (chunk 23 A x)) := by
  pointwise [k0_pay9, chunk]

/-- The elements of a block in the rows and columns of one running maximum have sizes at most `a`. -/
def Below (A : Backward.Arr 256 3072) (x : S8x128.Idx) (a : EReal) : Prop :=
  Ideal.ofBits FTy.f32 4286578688#32 ≤ a ∧ ∀ (s : Fin 256) (f : Fin 3072), s.val % 8 = (x 0).val → f.val % 128 = (x 1).val →
    FloatOps.absf (F := Ideal) (φ := .f32) (A (ix2 s f)) ≤ a

/-- The column groups' maxima together, said of the elements. -/
theorem chunks_le (A : Backward.Arr 256 3072) (x : S8x128.Idx) (a : EReal) : (∀ c : Fin 24, chunk c A x ≤ a) ↔ Below A x a := by
  have hx : (x 0).val < 8 := (x 0).isLt
  have hy : (x 1).val < 128 := (x 1).isLt
  unfold chunk Below
  simp only [Finset.fold_max_le, Finset.mem_univ, true_imp_iff]
  constructor
  · intro h
    refine ⟨(h 0).1, fun s f hs hf => ?_⟩
    have h1 := (h ⟨f.val / 128, by omega⟩).2 ⟨s.val / 8, by omega⟩
    have e : (⟨s.val / 8 * 8 + (x 0).val, by omega⟩ : Fin 256) = s := Fin.ext (by dsimp only; omega)
    have e' : (⟨128 * (f.val / 128) + (x 1).val, by omega⟩ : Fin 3072) = f := Fin.ext (by dsimp only; omega)
    rwa [e, e'] at h1
  · intro h c
    refine ⟨h.1, fun k => h.2 _ _ ?_ ?_⟩ <;> dsimp only <;> omega

/-- What bounds the running maxima after a grid point. -/
theorem step_le (A : Backward.Arr 256 3072) (y : Vec Ideal S8x128 .f32) (x : S8x128.Idx) (a : EReal) :
    (show EReal from k0_pay9 (A : FVec Ideal S256x3072 .f32) y x) ≤ a ↔ (show EReal from y x) ≤ a ∧ Below A x a := by
  rw [← chunks_le, step_eq]
  simp only [max_le_iff, and_assoc, Fin.forall_fin_succ, Fin.isValue, IsEmpty.forall_iff, and_true]
  rfl

/-- What bounds the running maxima after grid point `n`, for any blocks. -/
theorem run_le (A : (n : ℕ) → n < 8 → Backward.Arr 256 3072) (R : (n : ℕ) → n < 8 → Vec Ideal S8x128 .f32)
    (y : Vec Ideal S8x128 .f32) (x : S8x128.Idx) (a : EReal) (hy : (show EReal from y x) = 0)
    (h0 : ∀ h, R 0 h = k0_pay9 (A 0 h : FVec Ideal S256x3072 .f32) y)
    (hs : ∀ n (h : n + 1 < 8), R (n + 1) h = k0_pay9 (A (n + 1) h : FVec Ideal S256x3072 .f32) (R n (by omega))) :
    ∀ (n : ℕ) (hn : n < 8), (show EReal from R n hn x) ≤ a ↔
      0 ≤ a ∧ ∀ (k : ℕ) (hk : k ≤ n), Below (A k (by omega)) x a
  | 0, hn => by
    rw [h0, step_le, hy]
    constructor
    · rintro ⟨h, h'⟩
      exact ⟨h, fun k hk => by obtain rfl : k = 0 := by omega
                               exact h'⟩
    · rintro ⟨h, h'⟩
      exact ⟨h, h' 0 le_rfl⟩
  | n + 1, hn => by
    rw [hs, step_le]
    have ih := run_le A R y x a hy h0 hs n (by omega)
    constructor
    · rintro ⟨h, h'⟩
      obtain ⟨i1, i2⟩ := ih.mp h
      refine ⟨i1, fun k hk => ?_⟩
      by_cases e : k = n + 1
      · subst e
        exact h'
      · exact i2 k (by omega)
    · rintro ⟨h, h'⟩
      exact ⟨ih.mpr ⟨h, fun k hk => h' k (by omega)⟩, h' (n + 1) le_rfl⟩

/-- The running maxima start at zero. -/
theorem zero_x (x : S8x128.Idx) : (show EReal from k0_pay4 (F := Ideal) x) = 0 := by
  pointwise [k0_pay4]

theorem zero_dy (x : S8x128.Idx) : (show EReal from k0_pay5 (F := Ideal) x) = 0 := by
  pointwise [k0_pay5]

/-- What bounds the largest of the running maxima. -/
theorem largest_le (Z : Vec Ideal S8x128 .f32) (a : EReal) : (show EReal from k0_pay2 Z) ≤ a ↔
    Ideal.ofBits FTy.f32 4286578688#32 ≤ a ∧ ∀ x : Fin 8 × Fin 128, (show EReal from Z (ix2 x.1 x.2)) ≤ a := by
  have e : (show EReal from k0_pay2 Z) = Finset.fold max (Ideal.ofBits FTy.f32 4286578688#32)
      (fun x : Fin 8 × Fin 128 => (show EReal from Z (ix2 x.1 x.2))) Finset.univ := by
    pointwise [k0_pay2]
  rw [e, Finset.fold_max_le]
  simp only [Finset.mem_univ, forall_const]

/-- The two results are computed from their running maxima alike. -/
theorem largest_eq (Z : Vec Ideal S8x128 .f32) : k0_pay3 Z = k0_pay2 Z := rfl

/-- The two running maxima are updated alike. -/
theorem step_dy (y : Vec Ideal S8x128 .f32) (D : Vec Ideal S256x3072 .bf16) :
    k0_pay1 y (k0_pay12 D) (k0_pay13 D) (k0_pay14 D) = k0_pay9 (k0_pay10 D) y := rfl

/-- The normalised block. -/
theorem pay_xn (X : Vec Ideal S256x3072 .bf16) (g : Vec Ideal S1x3072 .f32) : k0_pay6 X g = Norm.xn X g := by
  funext i
  pointwise [k0_pay6, Norm.xn, Norm.codes, Norm.swap, Backward.codes, Backward.amax, Backward.q4, Backward.q5, NormBack.dxh, NormBack.xhat, NormBack.rs, NormBack.width]

/-- The codes of the normalised block. -/
theorem pay_codes (X : Vec Ideal S256x3072 .bf16) (g : Vec Ideal S1x3072 .f32) (s : Elt Ideal .f32) :
    k0_pay7 X g s = Norm.codes s (Norm.xn X g) := by
  funext i
  pointwise [k0_pay7, k0_pay6, Norm.xn, Norm.codes, Norm.swap, Backward.codes, Backward.amax, Backward.q4, Backward.q5, NormBack.dxh, NormBack.xhat, NormBack.rs, NormBack.width]

/-- The same codes with the axes exchanged. -/
theorem pay_swap (X : Vec Ideal S256x3072 .bf16) (g : Vec Ideal S1x3072 .f32) (s : Elt Ideal .f32) :
    k0_pay8 X g s = Norm.swap (Norm.codes s (Norm.xn X g)) := by
  rw [← pay_codes]
  funext i
  pointwise [k0_pay8, Norm.swap]

/-- The codes of the block of the output gradient. -/
theorem pay_dy (D : Vec Ideal S256x3072 .bf16) (s : Elt Ideal .f32) : k0_pay11 D s = Backward.codes s D := by
  funext i
  pointwise [k0_pay11, k0_pay10, Backward.codes, Backward.q5]

/-- The block of the output gradient, in the accumulator's format. -/
theorem pay_ext (D : Vec Ideal S256x3072 .bf16) : k0_pay10 D = D := by
  funext i
  pointwise [k0_pay10]

end Cert.PrepIdeal.Value

end
-- ==== Proof.PrepPoint.lean ====
module

public import proofs.«01_k».proof.Proof.PrepTiles
public import proofs.«01_k».proof.Proof.Scal
public import proofs.«01_k».proof.Proof.Local
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The arguments and the blocks of the preparation kernel, and what a grid point leaves -/

namespace Cert.PrepIdeal.Value

open Cert.PrepIdeal Cert.PrepIdeal.Gen

variable (m : (ℓ : Loc nD τ sig) → Buf (Elt Ideal) ℓ)

/-- Where each window's block lies at each grid point: row block `t`. -/
theorem idx : ∀ t : Fin cfg0.N, win0_0.index t = ![0, 0]
    ∧ win0_1.index t = ![0, 0]
    ∧ win0_2.index t = ![t.val, 0]
    ∧ win0_3.index t = ![0, 0]
    ∧ win0_4.index t = ![t.val, 0]
    ∧ win0_5.index t = ![t.val, 0]
    ∧ win0_6.index t = ![0, t.val]
    ∧ win0_7.index t = ![t.val, 0]
    ∧ win0_8.index t = ![0, 0]
    ∧ win0_9.index t = ![0, 0] :=
  (by decide +kernel : ∀ t : Fin grid0.N, _)

/-- Argument 0, without its leading axis of one element. -/
def a0 (c : Dev nD) : Backward.Arr 2048 3072 := fun i => (m ((c : Thread nD τ).loc main_arg0) : Vec Ideal S1x2048x3072 .bf16) (ix3 0 (i 0) (i 1))

/-- Argument 1, as one row. -/
def a1 (c : Dev nD) : Backward.Arr 1 3072 := fun i => (m ((c : Thread nD τ).loc main_arg1) : Vec Ideal S3072 .f32) (ix1 (i 1))

/-- Argument 2, a scalar. -/
abbrev a2 (c : Dev nD) : EReal := m ((c : Thread nD τ).loc main_arg2) (fun a => a.elim0)

/-- Argument 3, without its leading axis of one element. -/
def a3 (c : Dev nD) : Backward.Arr 2048 3072 := fun i => (m ((c : Thread nD τ).loc main_arg3) : Vec Ideal S1x2048x3072 .bf16) (ix3 0 (i 0) (i 1))

/-- Argument 4, a scalar. -/
abbrev a4 (c : Dev nD) : EReal := m ((c : Thread nD τ).loc main_arg4) (fun a => a.elim0)

/-- The normalised input, whole. -/
abbrev gX (c : Dev nD) : Backward.Arr 2048 3072 := Norm.xn (a0 m c) (a1 m c)

theorem blk0 (c : Dev nD) (t : Fin cfg0.N) : (iblk m c 0 t : Vec Ideal S1x1 .f32) (ix2 0 0) = a2 m c := by
  unfold iblk
  rw [View.read_apply]
  entry_read
  exact congrArg (m ((c : Thread nD τ).loc main_arg2)) (funext fun a => a.elim0)

theorem blk1 (c : Dev nD) (t : Fin cfg0.N) : (iblk m c 1 t : Vec Ideal S1x1 .f32) (ix2 0 0) = a4 m c := by
  unfold iblk
  rw [View.read_apply]
  entry_read
  exact congrArg (m ((c : Thread nD τ).loc main_arg4)) (funext fun a => a.elim0)

/-- The rows of a grid point. -/
def row (t : Fin cfg0.N) (j : Fin 256) : Fin 2048 :=
  ⟨t.val * 256 + j.val, by have h : t.val < 8 := t.isLt; omega⟩

theorem blk2 (c : Dev nD) (t : Fin cfg0.N) : (iblk m c 2 t : Vec Ideal S256x3072 .bf16) = Backward.rows (row t) (a0 m c) := by
  funext i
  unfold Backward.rows a0
  blk_ext! [iblk, V, idx t, row]

theorem blk3 (c : Dev nD) (t : Fin cfg0.N) : (iblk m c 3 t : Vec Ideal S1x3072 .f32) = a1 m c := by
  funext i
  unfold a1
  blk_ext! [iblk, V, idx t]

theorem blk4 (c : Dev nD) (t : Fin cfg0.N) : (iblk m c 4 t : Vec Ideal S256x3072 .bf16) = Backward.rows (row t) (a3 m c) := by
  funext i
  unfold Backward.rows a3
  blk_ext! [iblk, V, idx t, row]

/-- The normalised block is the block of the normalised input. -/
theorem xn_eq (c : Dev nD) (t : Fin cfg0.N) :
    Norm.xn (iblk m c 2 t) (iblk m c 3 t) = Backward.rows (row t) (gX m c) := by
  rw [blk2, blk3, Norm.xn_rows]

set_option maxHeartbeats 1000000 in
/-- A grid point leaves the codes of the normalised block. -/
theorem out5 (c : Dev nD) (t : Fin cfg0.N) : ((outsAt0 m c t.val t.isLt).1 : Vec Ideal S256x3072 .fp8e4m3)
    = k0_pay7 (iblk m c 2 t) (iblk m c 3 t) (a2 m c) := by
  by_cases h0 : t.val % 8 = 0
  · rw [outsAt0_A m c t h0 (by omega)]
    frame_out
    repeat rw [Scal.ld_one]
    simp only [blk0, blk1, read_unread_whole]
  by_cases h1 : t.val % 8 = 7
  · rw [outsAt0_C m c t h0 h1]
    frame_out
    repeat rw [Scal.ld_one]
    simp only [blk0, blk1, read_unread_whole]
  · rw [outsAt0_B m c t h0 h1]
    frame_out
    repeat rw [Scal.ld_one]
    simp only [blk0, blk1, read_unread_whole]

set_option maxHeartbeats 1000000 in
/-- A grid point leaves the same codes with the axes exchanged. -/
theorem out6 (c : Dev nD) (t : Fin cfg0.N) : ((outsAt0 m c t.val t.isLt).2.1 : Vec Ideal S3072x256 .fp8e4m3)
    = k0_pay8 (iblk m c 2 t) (iblk m c 3 t) (a2 m c) := by
  by_cases h0 : t.val % 8 = 0
  · rw [outsAt0_A m c t h0 (by omega)]
    frame_out
    repeat rw [Scal.ld_one]
    simp only [blk0, blk1, read_unread_whole]
  by_cases h1 : t.val % 8 = 7
  · rw [outsAt0_C m c t h0 h1]
    frame_out
    repeat rw [Scal.ld_one]
    simp only [blk0, blk1, read_unread_whole]
  · rw [outsAt0_B m c t h0 h1]
    frame_out
    repeat rw [Scal.ld_one]
    simp only [blk0, blk1, read_unread_whole]

set_option maxHeartbeats 1000000 in
/-- A grid point leaves the codes of the block of the output gradient. -/
theorem out7 (c : Dev nD) (t : Fin cfg0.N) : ((outsAt0 m c t.val t.isLt).2.2.1 : Vec Ideal S256x3072 .fp8e5m2)
    = k0_pay11 (iblk m c 4 t) (a4 m c) := by
  by_cases h0 : t.val % 8 = 0
  · rw [outsAt0_A m c t h0 (by omega)]
    frame_out
    repeat rw [Scal.ld_one]
    simp only [blk0, blk1, read_unread_whole]
  by_cases h1 : t.val % 8 = 7
  · rw [outsAt0_C m c t h0 h1]
    frame_out
    repeat rw [Scal.ld_one]
    simp only [blk0, blk1, read_unread_whole]
  · rw [outsAt0_B m c t h0 h1]
    frame_out
    repeat rw [Scal.ld_one]
    simp only [blk0, blk1, read_unread_whole]

set_option maxHeartbeats 1000000 in
/-- The running maxima the first grid point leaves. -/
theorem runX_first (c : Dev nD) (t : Fin cfg0.N) (h0 : t.val % 8 = 0) : ((outsAt0 m c t.val t.isLt).2.2.2.2.2.1 : Vec Ideal S8x128 .f32)
    = k0_pay9 (k0_pay6 (iblk m c 2 t) (iblk m c 3 t)) (k0_pay4 (F := Ideal)) := by
  rw [outsAt0_A m c t h0 (by omega)]
  frame_out

set_option maxHeartbeats 1000000 in
/-- The running maxima a later grid point leaves. -/
theorem runX_next (c : Dev nD) (t : Fin cfg0.N) (h0 : ¬ t.val % 8 = 0) : ((outsAt0 m c t.val t.isLt).2.2.2.2.2.1 : Vec Ideal S8x128 .f32)
    = k0_pay9 (k0_pay6 (iblk m c 2 t) (iblk m c 3 t)) (outsAt0 m c (t.val - 1) (by omega)).2.2.2.2.2.1 := by
  by_cases h1 : t.val % 8 = 7
  · rw [outsAt0_C m c t h0 h1]
    frame_out
    repeat rw [Scal.ld_one]
    simp only [blk0, blk1, read_unread_whole]
  · rw [outsAt0_B m c t h0 h1]
    frame_out
    repeat rw [Scal.ld_one]
    simp only [blk0, blk1, read_unread_whole]

set_option maxHeartbeats 1000000 in
/-- The running maxima the first grid point leaves. -/
theorem runD_first (c : Dev nD) (t : Fin cfg0.N) (h0 : t.val % 8 = 0) : ((outsAt0 m c t.val t.isLt).2.2.2.2.2.2 : Vec Ideal S8x128 .f32)
    = k0_pay1 (k0_pay5 (F := Ideal)) (k0_pay12 (iblk m c 4 t)) (k0_pay13 (iblk m c 4 t)) (k0_pay14 (iblk m c 4 t)) := by
  rw [outsAt0_A m c t h0 (by omega)]
  frame_out

set_option maxHeartbeats 1000000 in
/-- The running maxima a later grid point leaves. -/
theorem runD_next (c : Dev nD) (t : Fin cfg0.N) (h0 : ¬ t.val % 8 = 0) : ((outsAt0 m c t.val t.isLt).2.2.2.2.2.2 : Vec Ideal S8x128 .f32)
    = k0_pay1 (outsAt0 m c (t.val - 1) (by omega)).2.2.2.2.2.2 (k0_pay12 (iblk m c 4 t)) (k0_pay13 (iblk m c 4 t)) (k0_pay14 (iblk m c 4 t)) := by
  by_cases h1 : t.val % 8 = 7
  · rw [outsAt0_C m c t h0 h1]
    frame_out
    repeat rw [Scal.ld_one]
    simp only [blk0, blk1, read_unread_whole]
  · rw [outsAt0_B m c t h0 h1]
    frame_out
    repeat rw [Scal.ld_one]
    simp only [blk0, blk1, read_unread_whole]

set_option maxHeartbeats 1000000 in
/-- The last grid point's result is the maximum of the running maxima it leaves. -/
theorem out8 (c : Dev nD) (t : Fin cfg0.N) (h1 : t.val % 8 = 7) : ((outsAt0 m c t.val t.isLt).2.2.2.1 : Vec Ideal S1x1 .f32)
    = fun _ => k0_pay2 (outsAt0 m c t.val t.isLt).2.2.2.2.2.1 := by
  rw [outsAt0_C m c t (by omega) h1]
  frame_out
  rfl

set_option maxHeartbeats 1000000 in
/-- The last grid point's result is the maximum of the running maxima it leaves. -/
theorem out9 (c : Dev nD) (t : Fin cfg0.N) (h1 : t.val % 8 = 7) : ((outsAt0 m c t.val t.isLt).2.2.2.2.1 : Vec Ideal S1x1 .f32)
    = fun _ => k0_pay3 (outsAt0 m c t.val t.isLt).2.2.2.2.2.2 := by
  rw [outsAt0_C m c t (by omega) h1]
  frame_out
  rfl

end Cert.PrepIdeal.Value

end
-- ==== Proof.PrepValue.lean ====
module

public import proofs.«01_k».proof.Proof.PrepPoint
public import proofs.«01_k».proof.Proof.BwdMax
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The results of the preparation kernel -/

namespace Cert.PrepIdeal.Value

open Cert.PrepIdeal Cert.PrepIdeal.Gen
open Cert.BwdIdeal.Value (amax_le absf_nonneg)

variable (m : (ℓ : Loc nD τ sig) → Buf (Elt Ideal) ℓ)

/-- The kernel's result: the codes of the normalised input. -/
theorem final5 (c : Dev nD) : (dats m 0 c).arrAt 5 (cfgs 0).N = (Norm.codes (a2 m c) (gX m c) : Vec Ideal S2048x3072 .fp8e4m3) := by
  refine (dats m 0 c).arrAt_eq_of_covers 5 _ (by decide +kernel) fun t _ y => ?_
  blk_simp
  rw [after0_5, out5, pay_codes, xn_eq, Norm.codes_rows, Backward.rows]
  refine congrArg _ ?_
  blk_ext [idx t, row]

/-- The kernel's result: the same codes with the axes exchanged. -/
theorem final6 (c : Dev nD) : (dats m 0 c).arrAt 6 (cfgs 0).N = (Norm.swap (Norm.codes (a2 m c) (gX m c)) : Vec Ideal S3072x2048 .fp8e4m3) := by
  refine (dats m 0 c).arrAt_eq_of_covers 6 _ (by decide +kernel) fun t _ y => ?_
  blk_simp
  rw [after0_6, out6, pay_swap, xn_eq, Norm.codes_rows, Norm.swap_rows, Backward.cols]
  refine congrArg _ ?_
  blk_ext [idx t, row]

/-- The kernel's result: the codes of the output gradient. -/
theorem final7 (c : Dev nD) : (dats m 0 c).arrAt 7 (cfgs 0).N = (Backward.codes (a4 m c) (a3 m c) : Vec Ideal S2048x3072 .fp8e5m2) := by
  refine (dats m 0 c).arrAt_eq_of_covers 7 _ (by decide +kernel) fun t _ y => ?_
  blk_simp
  rw [after0_7, out7, pay_dy, blk4, Norm.codes5_rows, Backward.rows]
  refine congrArg _ ?_
  blk_ext [idx t, row]

/-- The rows of the grid points are all the rows. -/
theorem row_surj (s : Fin 2048) : ∃ (t : Fin cfg0.N) (j : Fin 256), row t j = s ∧ j.val % 8 = s.val % 8 :=
  ⟨⟨s.val / 256, show s.val / 256 < 8 by omega⟩, ⟨s.val % 256, by omega⟩, Fin.ext (by dsimp only [row]; omega), by dsimp only; omega⟩

/-- The largest of the running maxima the last grid point leaves is the largest size of the array whose blocks they saw. -/
theorem largest_run (B : Backward.Arr 2048 3072) (R : (n : ℕ) → n < 8 → Vec Ideal S8x128 .f32) (y : Vec Ideal S8x128 .f32)
    (hy : ∀ x, (show EReal from y x) = 0)
    (h0 : ∀ h, R 0 h = k0_pay9 (Backward.rows (row ⟨0, h⟩) B : FVec Ideal S256x3072 .f32) y)
    (hs : ∀ n (h : n + 1 < 8), R (n + 1) h = k0_pay9 (Backward.rows (row ⟨n + 1, h⟩) B : FVec Ideal S256x3072 .f32) (R n (by omega)))
    (n : ℕ) (hn : n < 8) (h7 : n % 8 = 7) : (show EReal from k0_pay2 (R n hn)) = Backward.amax B := by
  refine eq_of_forall_ge_iff (α := EReal) fun a => ?_
  refine (largest_le _ a).trans ?_
  rw [amax_le]
  have hr := fun x => run_le (fun n h => Backward.rows (row ⟨n, h⟩) B) R y x a (hy x) h0 hs n hn
  constructor
  · rintro ⟨h, h'⟩
    refine ⟨h, fun s f => ?_⟩
    obtain ⟨k, j, rfl, hj⟩ := row_surj s
    have hk : k.val < 8 := k.isLt
    exact (((hr _).mp (h' (⟨(row k j).val % 8, by omega⟩, ⟨f.val % 128, by omega⟩))).2 k.val (by omega)).2 j f hj rfl
  · rintro ⟨h, h'⟩
    exact ⟨h, fun x => (hr _).mpr ⟨(absf_nonneg _).trans (h' 0 0), fun k hk => ⟨h, fun s f _ _ => h' _ _⟩⟩⟩

theorem runX_step (c : Dev nD) (t : Fin cfg0.N) (y : Vec Ideal S8x128 .f32) :
    k0_pay9 (k0_pay6 (iblk m c 2 t) (iblk m c 3 t)) y = k0_pay9 (Backward.rows (row t) (gX m c) : FVec Ideal S256x3072 .f32) y := by
  rw [pay_xn, xn_eq]

theorem runD_step (c : Dev nD) (t : Fin cfg0.N) (y : Vec Ideal S8x128 .f32) :
    k0_pay1 y (k0_pay12 (iblk m c 4 t)) (k0_pay13 (iblk m c 4 t)) (k0_pay14 (iblk m c 4 t))
      = k0_pay9 (Backward.rows (row t) (a3 m c) : FVec Ideal S256x3072 .f32) y := by
  rw [step_dy, pay_ext, blk4]

/-- The kernel's result: the largest size of the normalised input. -/
theorem final8 (c : Dev nD) : (dats m 0 c).arrAt 8 (cfgs 0).N = (fun _ => Backward.amax (gX m c) : Vec Ideal S1x1 .f32) := by
  refine (dats m 0 c).arrAt_eq_of_covers 8 _ (by decide +kernel) fun t hf y => ?_
  have ht : t.val % 8 = 7 := (flush0_8 t).mp hf
  blk_simp
  rw [after0_8, out8 m c t ht]
  exact largest_run (gX m c) (fun n hn => (outsAt0 m c n hn).2.2.2.2.2.1) (k0_pay4 (F := Ideal)) zero_x
    (fun h => (runX_first m c ⟨0, h⟩ rfl).trans (runX_step m c ⟨0, h⟩ _))
    (fun n h => (runX_next m c ⟨n + 1, h⟩ (by dsimp only; omega)).trans (runX_step m c ⟨n + 1, h⟩ _)) t.val t.isLt ht

/-- The kernel's result: the largest size of the output gradient. -/
theorem final9 (c : Dev nD) : (dats m 0 c).arrAt 9 (cfgs 0).N = (fun _ => Backward.amax (a3 m c) : Vec Ideal S1x1 .f32) := by
  refine (dats m 0 c).arrAt_eq_of_covers 9 _ (by decide +kernel) fun t hf y => ?_
  have ht : t.val % 8 = 7 := (flush0_9 t).mp hf
  blk_simp
  rw [after0_9, out9 m c t ht]
  exact (largest_eq _).trans <| largest_run (a3 m c) (fun n hn => (outsAt0 m c n hn).2.2.2.2.2.2) (k0_pay5 (F := Ideal)) zero_dy
    (fun h => (runD_first m c ⟨0, h⟩ rfl).trans (runD_step m c ⟨0, h⟩ _))
    (fun n h => (runD_next m c ⟨n + 1, h⟩ (by dsimp only; omega)).trans (runD_step m c ⟨n + 1, h⟩ _)) t.val t.isLt ht

end Cert.PrepIdeal.Value

end
-- ==== Proof.PrepRef.lean ====
module

public import proofs.«01_k».proof.Proof.Gen.RPrepIdeal.Frame
public import proofs.«01_k».proof.Proof.Scal
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The reference for the preparation: its results are formulas of its arguments -/

namespace Cert.RPrepIdeal.Value

open Cert.RPrepIdeal Cert.RPrepIdeal.Gen

variable (m : (ℓ : Loc nD τ sig) → Buf (Elt Ideal) ℓ)

/-- The only grid point reads every argument whole. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0] :=
  (by decide +kernel : ∀ t : Fin grid0.N, _)

/-- Argument 0, without its leading axis of one element. -/
def a0 (c : Dev nD) : Backward.Arr 2048 3072 := fun i => (m ((c : Thread nD τ).loc main_arg0) : Vec Ideal S1x2048x3072 .bf16) (ix3 0 (i 0) (i 1))

/-- Argument 1, as one row. -/
def a1 (c : Dev nD) : Backward.Arr 1 3072 := fun i => (m ((c : Thread nD τ).loc main_arg1) : Vec Ideal S3072 .f32) (ix1 (i 1))

/-- Argument 2, a scalar. -/
abbrev a2 (c : Dev nD) : EReal := m ((c : Thread nD τ).loc main_arg2) (fun a => a.elim0)

/-- Argument 3, without its leading axis of one element. -/
def a3 (c : Dev nD) : Backward.Arr 2048 3072 := fun i => (m ((c : Thread nD τ).loc main_arg3) : Vec Ideal S1x2048x3072 .bf16) (ix3 0 (i 0) (i 1))

/-- Argument 4, a scalar. -/
abbrev a4 (c : Dev nD) : EReal := m ((c : Thread nD τ).loc main_arg4) (fun a => a.elim0)

/-- The normalised input, whole. -/
abbrev gX (c : Dev nD) : Backward.Arr 2048 3072 := Norm.xn (a0 m c) (a1 m c)

theorem blk0 (c : Dev nD) (t : Fin cfg0.N) : (iblk m c 0 t : Vec Ideal S1x1 .f32) (ix2 0 0) = a2 m c := by
  unfold iblk
  rw [View.read_apply]
  entry_read
  exact congrArg (m ((c : Thread nD τ).loc main_arg2)) (funext fun a => a.elim0)

theorem blk1 (c : Dev nD) (t : Fin cfg0.N) : (iblk m c 1 t : Vec Ideal S1x1 .f32) (ix2 0 0) = a4 m c := by
  unfold iblk
  rw [View.read_apply]
  entry_read
  exact congrArg (m ((c : Thread nD τ).loc main_arg4)) (funext fun a => a.elim0)

theorem blk2 (c : Dev nD) (t : Fin cfg0.N) : (iblk m c 2 t : Vec Ideal S2048x3072 .bf16) = a0 m c := by
  funext i
  unfold a0
  blk_ext! [iblk, V, idx t]

theorem blk3 (c : Dev nD) (t : Fin cfg0.N) : (iblk m c 3 t : Vec Ideal S1x3072 .f32) = a1 m c := by
  funext i
  unfold a1
  blk_ext! [iblk, V, idx t]

theorem blk4 (c : Dev nD) (t : Fin cfg0.N) : (iblk m c 4 t : Vec Ideal S2048x3072 .bf16) = a3 m c := by
  funext i
  unfold a3
  blk_ext! [iblk, V, idx t]

/-- What the body leaves for the codes of the normalised input. -/
theorem out5 (c : Dev nD) (t : Fin cfg0.N) : ((outsAt0 m c t).1 : Vec Ideal S2048x3072 .fp8e4m3)
    = Norm.codes (a2 m c) (gX m c) := by
  unfold outsAt0
  frame_out
  simp only [read_unread_whole, Scal.first_eq]
  simp only [blk0, blk1, blk2, blk3, blk4]
  funext i
  pointwise [k0_pay6, k0_pay5, k0_pay4, gX, Norm.xn, Norm.codes, Norm.swap, Backward.codes, Backward.amax, Backward.q4, Backward.q5, NormBack.dxh, NormBack.xhat, NormBack.rs, NormBack.width]

/-- The reference's result: the codes of the normalised input. -/
theorem final5 (c : Dev nD) : (dats m 0 c).arrAt 5 (cfgs 0).N = (Norm.codes (a2 m c) (gX m c) : Vec Ideal S2048x3072 .fp8e4m3) := by
  refine (dats m 0 c).arrAt_eq_of_after_last 5 t0_0 (by decide +kernel) _ fun j => ?_
  blk_simp
  rw [after0_5, out5]

/-- What the body leaves for the same codes with the axes exchanged. -/
theorem out6 (c : Dev nD) (t : Fin cfg0.N) : ((outsAt0 m c t).2.1 : Vec Ideal S3072x2048 .fp8e4m3)
    = Norm.swap (Norm.codes (a2 m c) (gX m c)) := by
  unfold outsAt0
  frame_out
  simp only [read_unread_whole, Scal.first_eq]
  simp only [blk0, blk1, blk2, blk3, blk4]
  funext i
  pointwise [k0_pay7, k0_pay5, k0_pay4, gX, Norm.xn, Norm.codes, Norm.swap, Backward.codes, Backward.amax, Backward.q4, Backward.q5, NormBack.dxh, NormBack.xhat, NormBack.rs, NormBack.width]

/-- The reference's result: the same codes with the axes exchanged. -/
theorem final6 (c : Dev nD) : (dats m 0 c).arrAt 6 (cfgs 0).N = (Norm.swap (Norm.codes (a2 m c) (gX m c)) : Vec Ideal S3072x2048 .fp8e4m3) := by
  refine (dats m 0 c).arrAt_eq_of_after_last 6 t0_0 (by decide +kernel) _ fun j => ?_
  blk_simp
  rw [after0_6, out6]

/-- What the body leaves for the codes of the output gradient. -/
theorem out7 (c : Dev nD) (t : Fin cfg0.N) : ((outsAt0 m c t).2.2.1 : Vec Ideal S2048x3072 .fp8e5m2)
    = Backward.codes (a4 m c) (a3 m c) := by
  unfold outsAt0
  frame_out
  simp only [read_unread_whole, Scal.first_eq]
  simp only [blk0, blk1, blk2, blk3, blk4]
  funext i
  pointwise [k0_pay2, k0_pay1, gX, Norm.xn, Norm.codes, Norm.swap, Backward.codes, Backward.amax, Backward.q4, Backward.q5, NormBack.dxh, NormBack.xhat, NormBack.rs, NormBack.width]

/-- The reference's result: the codes of the output gradient. -/
theorem final7 (c : Dev nD) : (dats m 0 c).arrAt 7 (cfgs 0).N = (Backward.codes (a4 m c) (a3 m c) : Vec Ideal S2048x3072 .fp8e5m2) := by
  refine (dats m 0 c).arrAt_eq_of_after_last 7 t0_0 (by decide +kernel) _ fun j => ?_
  blk_simp
  rw [after0_7, out7]

/-- What the body leaves for the largest size of the normalised input. -/
theorem out8 (c : Dev nD) (t : Fin cfg0.N) : ((outsAt0 m c t).2.2.2.1 : Vec Ideal S1x1 .f32)
    = fun _ => Backward.amax (gX m c) := by
  unfold outsAt0
  frame_out
  simp only [read_unread_whole, Scal.first_eq]
  simp only [blk0, blk1, blk2, blk3, blk4]
  funext i
  pointwise [k0_pay8, k0_pay4, gX, Norm.xn, Norm.codes, Norm.swap, Backward.codes, Backward.amax, Backward.q4, Backward.q5, NormBack.dxh, NormBack.xhat, NormBack.rs, NormBack.width]

/-- The reference's result: the largest size of the normalised input. -/
theorem final8 (c : Dev nD) : (dats m 0 c).arrAt 8 (cfgs 0).N = (fun _ => Backward.amax (gX m c) : Vec Ideal S1x1 .f32) := by
  refine (dats m 0 c).arrAt_eq_of_after_last 8 t0_0 (by decide +kernel) _ fun j => ?_
  blk_simp
  rw [after0_8, out8]

/-- What the body leaves for the largest size of the output gradient. -/
theorem out9 (c : Dev nD) (t : Fin cfg0.N) : ((outsAt0 m c t).2.2.2.2 : Vec Ideal S1x1 .f32)
    = fun _ => Backward.amax (a3 m c) := by
  unfold outsAt0
  frame_out
  simp only [read_unread_whole, Scal.first_eq]
  simp only [blk0, blk1, blk2, blk3, blk4]
  funext i
  pointwise [k0_pay3, k0_pay1, gX, Norm.xn, Norm.codes, Norm.swap, Backward.codes, Backward.amax, Backward.q4, Backward.q5, NormBack.dxh, NormBack.xhat, NormBack.rs, NormBack.width]

/-- The reference's result: the largest size of the output gradient. -/
theorem final9 (c : Dev nD) : (dats m 0 c).arrAt 9 (cfgs 0).N = (fun _ => Backward.amax (a3 m c) : Vec Ideal S1x1 .f32) := by
  refine (dats m 0 c).arrAt_eq_of_after_last 9 t0_0 (by decide +kernel) _ fun j => ?_
  blk_simp
  rw [after0_9, out9]

end Cert.RPrepIdeal.Value

end
-- ==== Proof.PrepClaim.lean ====
/- The preparation call: the idealized kernel and the reference leave the same results — the codes of the normalised input,
   the same codes with the axes exchanged, the codes of the output gradient, and the two largest sizes. -/
module

public import proofs.«01_k».proof.Defs
public import proofs.«01_k».proof.Proof.PrepValue
public import proofs.«01_k».proof.Proof.PrepRef

@[expose] public section

set_option maxRecDepth 16384

noncomputable section

open Idealize.ShloMosaic Idealize.ShloMosaic.TcCoe Idealize.SL.Sem

namespace Cert.PrepIdeal.Value

open Cert.PrepIdeal Cert.PrepIdeal.Gen

/-- What the run of the kernel leaves: its results, and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5_0) = (Norm.codes (a2 m c) (gX m c) : Vec Ideal S2048x3072 .fp8e4m3) ∧
      r.2.mem ((c.tc : Thread nD τ).loc main_v5_1) = (Norm.swap (Norm.codes (a2 m c) (gX m c)) : Vec Ideal S3072x2048 .fp8e4m3) ∧
      r.2.mem ((c.tc : Thread nD τ).loc main_v5_2) = (Backward.codes (a4 m c) (a3 m c) : Vec Ideal S2048x3072 .fp8e5m2) ∧
      r.2.mem ((c.tc : Thread nD τ).loc main_v5_3) = (fun _ => Backward.amax (gX m c) : Vec Ideal S1x1 .f32) ∧
      r.2.mem ((c.tc : Thread nD τ).loc main_v5_4) = (fun _ => Backward.amax (a3 m c) : Vec Ideal S1x1 .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  θ_run_mono (θ_run_and (run_main m g) (unchanged m g)) fun _ hr c =>
    ⟨((hr.1 c).1 5).trans (final5 m c),
      ((hr.1 c).1 6).trans (final6 m c),
      ((hr.1 c).1 7).trans (final7 m c),
      ((hr.1 c).1 8).trans (final8 m c),
      ((hr.1 c).1 9).trans (final9 m c), hr.2 c⟩

end Cert.PrepIdeal.Value

namespace Cert.RPrepIdeal.Value

open Cert.RPrepIdeal Cert.RPrepIdeal.Gen

/-- What the run of the reference leaves: its results, and its arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5_0) = (Norm.codes (a2 m c) (gX m c) : Vec Ideal S2048x3072 .fp8e4m3) ∧
      r.2.mem ((c.tc : Thread nD τ).loc main_v5_1) = (Norm.swap (Norm.codes (a2 m c) (gX m c)) : Vec Ideal S3072x2048 .fp8e4m3) ∧
      r.2.mem ((c.tc : Thread nD τ).loc main_v5_2) = (Backward.codes (a4 m c) (a3 m c) : Vec Ideal S2048x3072 .fp8e5m2) ∧
      r.2.mem ((c.tc : Thread nD τ).loc main_v5_3) = (fun _ => Backward.amax (gX m c) : Vec Ideal S1x1 .f32) ∧
      r.2.mem ((c.tc : Thread nD τ).loc main_v5_4) = (fun _ => Backward.amax (a3 m c) : Vec Ideal S1x1 .f32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4)) :=
  θ_run_mono (θ_run_and (run_main m g) (unchanged m g)) fun _ hr c =>
    ⟨((hr.1 c).1 5).trans (final5 m c),
      ((hr.1 c).1 6).trans (final6 m c),
      ((hr.1 c).1 7).trans (final7 m c),
      ((hr.1 c).1 8).trans (final8 m c),
      ((hr.1 c).1 9).trans (final9 m c), hr.2 c⟩

end Cert.RPrepIdeal.Value

namespace Cert.Prep

/-- The kernel and the reference give the same results from the same arguments. -/
theorem algebraic : algebraic_PrepIdeal_RPrepIdeal (hPrepIdeal := Cert.PrepIdeal.Gen.facts) (hRPrepIdeal := Cert.RPrepIdeal.Gen.facts) := by
  intro m g m' g' _ hagree
  refine ⟨fun c => Norm.codes (Cert.PrepIdeal.Value.a2 m c) (Cert.PrepIdeal.Value.gX m c),
    fun c => Norm.swap (Norm.codes (Cert.PrepIdeal.Value.a2 m c) (Cert.PrepIdeal.Value.gX m c)),
    fun c => Backward.codes (Cert.PrepIdeal.Value.a4 m c) (Cert.PrepIdeal.Value.a3 m c),
    fun c _ => Backward.amax (Cert.PrepIdeal.Value.gX m c),
    fun c _ => Backward.amax (Cert.PrepIdeal.Value.a3 m c),
    θ_run_mono (Cert.PrepIdeal.Value.run m g) fun r hr c => hr c, θ_run_mono (Cert.RPrepIdeal.Value.run m' g') fun r hr c => ?_⟩
  obtain ⟨r5, r6, r7, r8, r9, hargs⟩ := hr c
  obtain ⟨h0, h1, h2, h3, h4⟩ := hagree c
  have e0 : Cert.RPrepIdeal.Value.a0 m' c = Cert.PrepIdeal.Value.a0 m c := funext fun i => congrFun h0 (ix3 0 (i 0) (i 1))
  have e1 : Cert.RPrepIdeal.Value.a1 m' c = Cert.PrepIdeal.Value.a1 m c := funext fun i => congrFun h1 (ix1 (i 1))
  have e2 : Cert.RPrepIdeal.Value.a2 m' c = Cert.PrepIdeal.Value.a2 m c := congrFun h2 _
  have e3 : Cert.RPrepIdeal.Value.a3 m' c = Cert.PrepIdeal.Value.a3 m c := funext fun i => congrFun h3 (ix3 0 (i 0) (i 1))
  have e4 : Cert.RPrepIdeal.Value.a4 m' c = Cert.PrepIdeal.Value.a4 m c := congrFun h4 _
  have eg : Cert.RPrepIdeal.Value.gX m' c = Cert.PrepIdeal.Value.gX m c := by
    simp only [Cert.RPrepIdeal.Value.gX, Cert.PrepIdeal.Value.gX, e0, e1]
  rw [eg, e2] at r5 r6
  rw [e3, e4] at r7
  rw [eg] at r8
  rw [e3] at r9
  exact ⟨r5, r6, r7, r8, r9, hargs⟩

end Cert.Prep

end
-- ==== Proof.lean ====
module

public import proofs.«01_k».proof.Defs
public import proofs.«01_k».proof.Proof.Gen.Y
public import proofs.«01_k».proof.Proof.Gen.Y.Skeleton
public import proofs.«01_k».proof.Proof.Gen.Y.Launch
public import proofs.«01_k».proof.Proof.Gen.Y.Points
public import proofs.«01_k».proof.Proof.Gen.Y.Frame
public import proofs.«01_k».proof.Proof.Gen.YIdeal
public import proofs.«01_k».proof.Proof.Gen.YIdeal.Skeleton
public import proofs.«01_k».proof.Proof.Gen.YIdeal.Launch
public import proofs.«01_k».proof.Proof.Gen.YIdeal.Points
public import proofs.«01_k».proof.Proof.Gen.YIdeal.Frame
public import proofs.«01_k».proof.Proof.Gen.RYIdeal
public import proofs.«01_k».proof.Proof.Gen.RYIdeal.Skeleton
public import proofs.«01_k».proof.Proof.Gen.RYIdeal.Launch
public import proofs.«01_k».proof.Proof.Gen.RYIdeal.Points
public import proofs.«01_k».proof.Proof.Gen.RYIdeal.Frame
public import proofs.«01_k».proof.Proof.Gen.Dx
public import proofs.«01_k».proof.Proof.Gen.DxIdeal
public import proofs.«01_k».proof.Proof.Gen.DxIdeal.Skeleton
public import proofs.«01_k».proof.Proof.Gen.DxIdeal.Launch
public import proofs.«01_k».proof.Proof.Gen.RDxIdeal
public import proofs.«01_k».proof.Proof.Gen.RDxIdeal.Skeleton
public import proofs.«01_k».proof.Proof.Gen.RDxIdeal.Launch
public import proofs.«01_k».proof.Proof.Gen.RDxIdeal.Points
public import proofs.«01_k».proof.Proof.Gen.RDxIdeal.Frame
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.RBwdIdeal
public import proofs.«01_k».proof.Proof.Gen.RBwdIdeal.Skeleton
public import proofs.«01_k».proof.Proof.Gen.RBwdIdeal.Launch
public import proofs.«01_k».proof.Proof.Gen.RBwdIdeal.Points
public import proofs.«01_k».proof.Proof.Gen.RBwdIdeal.Frame
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.RPrepIdeal
public import proofs.«01_k».proof.Proof.Gen.RPrepIdeal.Skeleton
public import proofs.«01_k».proof.Proof.Gen.RPrepIdeal.Launch
public import proofs.«01_k».proof.Proof.Gen.RPrepIdeal.Points
public import proofs.«01_k».proof.Proof.Gen.RPrepIdeal.Frame
public import proofs.«01_k».proof.Proof.Gen.On_dgamma_row
public import proofs.«01_k».proof.Proof.YValue
public import proofs.«01_k».proof.Proof.DxFrame
public import proofs.«01_k».proof.Proof.DxBits
public import proofs.«01_k».proof.Proof.DxClaim
public import proofs.«01_k».proof.Proof.BwdClaim
public import proofs.«01_k».proof.Proof.PrepClaim
public import Idealize.ShloMosaic.Adequacy
public import Idealize.ShloMosaic.Init

@[expose] public section

noncomputable section

namespace Cert.Proof

open Idealize.ShloMosaic Idealize.SL.Sem Cert.Y

/-- The kernel and the reference of the call for `y` give the same result from the same arguments. -/
theorem algebraicY : algebraic_YIdeal_RYIdeal (hYIdeal := Cert.YIdeal.Gen.facts) (hRYIdeal := Cert.RYIdeal.Gen.facts) := by
  pair_intro
  · run_from Cert.YIdeal.Gen.run_main m g
  · run_from Cert.RYIdeal.Gen.run_main m' g'
    rw [Cert.YIdeal.Value.final, Cert.RYIdeal.Value.final, (hagree c).1, (hagree c).2.1, (hagree c).2.2]

theorem claim : Cert.Claim := ⟨Cert.Y.Gen.facts, Cert.YIdeal.Gen.facts, Cert.RYIdeal.Gen.facts, Cert.Dx.Gen.facts, Cert.DxIdeal.Gen.facts, Cert.RDxIdeal.Gen.facts, Cert.Bwd.Gen.facts, Cert.BwdIdeal.Gen.facts, Cert.RBwdIdeal.Gen.facts, Cert.Prep.Gen.facts, Cert.PrepIdeal.Gen.facts, Cert.RPrepIdeal.Gen.facts, Cert.On_dgamma_row.Gen.facts,
  fun m ρ _ => Cert.Y.Gen.frame m ρ,
  fun m ρ _ => Cert.YIdeal.Gen.frame m ρ,
  fun m ρ _ => Cert.RYIdeal.Gen.frame m ρ,
  fun m ρ _ => Cert.Dx.Gen.frame m ρ,
  fun m ρ _ => Cert.DxIdeal.Gen.frame m ρ,
  fun m ρ _ => Cert.RDxIdeal.Gen.frame m ρ,
  fun m ρ _ => Cert.Bwd.Gen.frame m ρ,
  fun m ρ _ => Cert.BwdIdeal.Gen.frame m ρ,
  fun m ρ _ => Cert.RBwdIdeal.Gen.frame m ρ,
  fun m ρ _ => Cert.Prep.Gen.frame m ρ,
  fun m ρ _ => Cert.PrepIdeal.Gen.frame m ρ,
  fun m ρ _ => Cert.RPrepIdeal.Gen.frame m ρ,
  trivial,
  algebraicY,
  trivial,
  Cert.Dx.algebraic,
  trivial,
  Cert.Bwd.algebraic,
  trivial,
  Cert.Prep.algebraic⟩

end Cert.Proof

end
